-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_in_order [hPre_gate_in_order : Cert.Pre_gate_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_gate_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_gate_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_gate_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_in_order [hPre_gate_in_order : Cert.Pre_gate_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_gate_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_gate_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_gate_in_order [hKernelIdeal : Cert.KernelIdeal.Facts] [hPre_gate_in_order : Cert.Pre_gate_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_gate_in_order [hReferenceIdeal : Cert.ReferenceIdeal.Facts] [hPre_gate_in_order : Cert.Pre_gate_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_gate_in_order [hKernelIdeal : Cert.KernelIdeal.Facts] [hReferenceIdeal : Cert.ReferenceIdeal.Facts] [hPre_gate_in_order : Cert.Pre_gate_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_gate_in_order : Cert.Pre_gate_in_order.Facts),
    quiescent_Kernel (hKernel := hKernel)
    ∧ quiescent_KernelIdeal (hKernelIdeal := hKernelIdeal)
    ∧ quiescent_KernelIdeal_pre_gate_in_order (hKernelIdeal := hKernelIdeal) (hPre_gate_in_order := hPre_gate_in_order)
    ∧ quiescent_ReferenceIdeal (hReferenceIdeal := hReferenceIdeal)
    ∧ quiescent_ReferenceIdeal_pre_gate_in_order (hReferenceIdeal := hReferenceIdeal) (hPre_gate_in_order := hPre_gate_in_order)
    ∧ preserves_Kernel_KernelIdeal
    ∧ algebraic_KernelIdeal_ReferenceIdeal_pre_gate_in_order (hKernelIdeal := hKernelIdeal) (hReferenceIdeal := hReferenceIdeal) (hPre_gate_in_order := hPre_gate_in_order)
-- ==== Pre_gate_in_order.lean ====
abbrev S1x2048x1024 : Shape := ⟨3, ![1, 2048, 1024]⟩
abbrev S64x1024 : Shape := ⟨2, ![64, 1024]⟩
abbrev S16x1024x4 : Shape := ⟨3, ![16, 1024, 4]⟩
abbrev S16x1408x1024 : Shape := ⟨3, ![16, 1408, 1024]⟩
abbrev S16x4x8x1024 : Shape := ⟨4, ![16, 4, 8, 1024]⟩
abbrev S16x4x1408x8 : Shape := ⟨4, ![16, 4, 1408, 8]⟩
abbrev S16x1408 : Shape := ⟨2, ![16, 1408]⟩
abbrev S16x1024x1408 : Shape := ⟨3, ![16, 1024, 1408]⟩
abbrev S16x4x8x1408 : Shape := ⟨4, ![16, 4, 8, 1408]⟩
abbrev S16x4x1024x8 : Shape := ⟨4, ![16, 4, 1024, 8]⟩
abbrev S16x1024 : Shape := ⟨2, ![16, 1024]⟩
abbrev S2816x1024 : Shape := ⟨2, ![2816, 1024]⟩
abbrev S1024x2816 : Shape := ⟨2, ![1024, 2816]⟩
abbrev S16x4 : Shape := ⟨2, ![16, 4]⟩
abbrev S64 : Shape := ⟨1, ![64]⟩
abbrev S_ : Shape := ⟨0, ![]⟩

class Facts : Prop where
  shapeCasts_S64_S16x4 : S64.ShapeCasts S16x4
  bcast_S_S1x2048x1024 : S_.BroadcastsInDim S1x2048x1024 (![] : Fin 0 → Fin S1x2048x1024.rank)
  bcast_S_S64x1024 : S_.BroadcastsInDim S64x1024 (![] : Fin 0 → Fin S64x1024.rank)

variable [Facts]

def fn {F : FTy → Type} [FloatOps F] (main_arg0 : FVec F S1x2048x1024 .f32) (main_arg1 : FVec F S64x1024 .f32) (main_arg2 : FVec F S16x1024x4 .f32) (main_arg3 : FVec F S16x1408x1024 .f32) (main_arg4 : FVec F S16x4x8x1024 .f32) (main_arg5 : FVec F S16x4x1408x8 .f32) (main_arg6 : FVec F S16x1408 .f32) (main_arg7 : FVec F S16x1408x1024 .f32) (main_arg8 : FVec F S16x4x8x1024 .f32) (main_arg9 : FVec F S16x4x1408x8 .f32) (main_arg10 : FVec F S16x1408 .f32) (main_arg11 : FVec F S16x1024x1408 .f32) (main_arg12 : FVec F S16x4x8x1408 .f32) (main_arg13 : FVec F S16x4x1024x8 .f32) (main_arg14 : FVec F S16x1024 .f32) (main_arg15 : FVec F S2816x1024 .f32) (main_arg16 : FVec F S2816x1024 .f32) (main_arg17 : FVec F S1024x2816 .f32) (main_arg18 : IVec S16x4 32) : IVec S16x4 1 × IVec S1x2048x1024 1 × IVec S64x1024 1 :=
  let main_v0 : IVec S64 32 := iotaInDim S64 32 0
  let main_v1 : IVec S16x4 32 := shapeCast S16x4 main_v0 shapeCasts_S64_S16x4
  let main_v2 : IVec S16x4 1 := cmpi .eq main_arg18 main_v1
  let main_v3 : FVec F S1x2048x1024 .f32 := Host.absf main_arg0
  let main_cst : FVec F S_ .f32 := constant S_ .f32 0x7F800000#32
  let main_v4 : FVec F S1x2048x1024 .f32 := broadcastInDim S1x2048x1024 ![] bcast_S_S1x2048x1024 main_cst
  let main_v5 : IVec S1x2048x1024 1 := cmpf .olt main_v3 main_v4
  let main_v6 : FVec F S64x1024 .f32 := Host.absf main_arg1
  let main_cst_0 : FVec F S_ .f32 := constant S_ .f32 0x7F800000#32
  let main_v7 : FVec F S64x1024 .f32 := broadcastInDim S64x1024 ![] bcast_S_S64x1024 main_cst_0
  let main_v8 : IVec S64x1024 1 := cmpf .olt main_v6 main_v7
  (main_v2, main_v5, main_v8)
-- ==== Kernel.lean ====
abbrev S1x2048x1024 : Shape := ⟨3, ![1, 2048, 1024]⟩
abbrev S64x1024 : Shape := ⟨2, ![64, 1024]⟩
abbrev S16x1024x4 : Shape := ⟨3, ![16, 1024, 4]⟩
abbrev S16x1408x1024 : Shape := ⟨3, ![16, 1408, 1024]⟩
abbrev S16x4x8x1024 : Shape := ⟨4, ![16, 4, 8, 1024]⟩
abbrev S16x4x1408x8 : Shape := ⟨4, ![16, 4, 1408, 8]⟩
abbrev S16x1408 : Shape := ⟨2, ![16, 1408]⟩
abbrev S16x1024x1408 : Shape := ⟨3, ![16, 1024, 1408]⟩
abbrev S16x4x8x1408 : Shape := ⟨4, ![16, 4, 8, 1408]⟩
abbrev S16x4x1024x8 : Shape := ⟨4, ![16, 4, 1024, 8]⟩
abbrev S16x1024 : Shape := ⟨2, ![16, 1024]⟩
abbrev S2816x1024 : Shape := ⟨2, ![2816, 1024]⟩
abbrev S1024x2816 : Shape := ⟨2, ![1024, 2816]⟩
abbrev S16x4 : Shape := ⟨2, ![16, 4]⟩
abbrev S2048x1024 : Shape := ⟨2, ![2048, 1024]⟩
abbrev S16x32x1024 : Shape := ⟨3, ![16, 32, 1024]⟩
abbrev S16x32x1408 : Shape := ⟨3, ![16, 32, 1408]⟩
abbrev S16x4x1024 : Shape := ⟨3, ![16, 4, 1024]⟩
abbrev S16x1x1408 : Shape := ⟨3, ![16, 1, 1408]⟩
abbrev S16x1x1024 : Shape := ⟨3, ![16, 1, 1024]⟩
abbrev S2048x64 : Shape := ⟨2, ![2048, 64]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩
abbrev S512x2816 : Shape := ⟨2, ![512, 2816]⟩
abbrev S1x1408x1024 : Shape := ⟨3, ![1, 1408, 1024]⟩
abbrev S1x32x1024 : Shape := ⟨3, ![1, 32, 1024]⟩
abbrev S1x32x1408 : Shape := ⟨3, ![1, 32, 1408]⟩
abbrev S1x1x1408 : Shape := ⟨3, ![1, 1, 1408]⟩
abbrev S1x1024x1408 : Shape := ⟨3, ![1, 1024, 1408]⟩
abbrev S1x1x1024 : Shape := ⟨3, ![1, 1, 1024]⟩
abbrev S1x4x1024 : Shape := ⟨3, ![1, 4, 1024]⟩
abbrev S1024x64 : Shape := ⟨2, ![1024, 64]⟩
abbrev S64x4 : Shape := ⟨2, ![64, 4]⟩
abbrev S1024x4 : Shape := ⟨2, ![1024, 4]⟩
abbrev S1024 : Shape := ⟨1, ![1024]⟩
abbrev S1024x1 : Shape := ⟨2, ![1024, 1]⟩
abbrev S4x32 : Shape := ⟨2, ![4, 32]⟩
abbrev S1024x32 : Shape := ⟨2, ![1024, 32]⟩
abbrev S1024x1024 : Shape := ⟨2, ![1024, 1024]⟩
abbrev S4x1024 : Shape := ⟨2, ![4, 1024]⟩
abbrev S1408x1024 : Shape := ⟨2, ![1408, 1024]⟩
abbrev S1024x1408 : Shape := ⟨2, ![1024, 1408]⟩
abbrev S32x1024 : Shape := ⟨2, ![32, 1024]⟩
abbrev S32x1408 : Shape := ⟨2, ![32, 1408]⟩
abbrev S1x1408 : Shape := ⟨2, ![1, 1408]⟩
abbrev S1x1024 : Shape := ⟨2, ![1, 1024]⟩

abbrev nBuf : Space → Nat
  | .hbm => 47
  | .vmem => 40
  | .smem => 0
  | _ => 0

abbrev bufTy : (tb : Table) → Fin (tcTables nBuf tb) → BufTy
  | .hbm, ⟨0, _⟩ => ⟨S1x2048x1024, .f32⟩
  | .hbm, ⟨1, _⟩ => ⟨S64x1024, .f32⟩
  | .hbm, ⟨2, _⟩ => ⟨S16x1024x4, .f32⟩
  | .hbm, ⟨3, _⟩ => ⟨S16x1408x1024, .f32⟩
  | .hbm, ⟨4, _⟩ => ⟨S16x4x8x1024, .f32⟩
  | .hbm, ⟨5, _⟩ => ⟨S16x4x1408x8, .f32⟩
  | .hbm, ⟨6, _⟩ => ⟨S16x1408, .f32⟩
  | .hbm, ⟨7, _⟩ => ⟨S16x1408x1024, .f32⟩
  | .hbm, ⟨8, _⟩ => ⟨S16x4x8x1024, .f32⟩
  | .hbm, ⟨9, _⟩ => ⟨S16x4x1408x8, .f32⟩
  | .hbm, ⟨10, _⟩ => ⟨S16x1408, .f32⟩
  | .hbm, ⟨11, _⟩ => ⟨S16x1024x1408, .f32⟩
  | .hbm, ⟨12, _⟩ => ⟨S16x4x8x1408, .f32⟩
  | .hbm, ⟨13, _⟩ => ⟨S16x4x1024x8, .f32⟩
  | .hbm, ⟨14, _⟩ => ⟨S16x1024, .f32⟩
  | .hbm, ⟨15, _⟩ => ⟨S2816x1024, .f32⟩
  | .hbm, ⟨16, _⟩ => ⟨S2816x1024, .f32⟩
  | .hbm, ⟨17, _⟩ => ⟨S1024x2816, .f32⟩
  | .hbm, ⟨18, _⟩ => ⟨S16x4, .i32⟩
  | .hbm, ⟨19, _⟩ => ⟨S2048x1024, .f32⟩
  | .hbm, ⟨20, _⟩ => ⟨S2048x1024, .bf16⟩
  | .hbm, ⟨21, _⟩ => ⟨S16x32x1024, .f32⟩
  | .hbm, ⟨22, _⟩ => ⟨S16x32x1024, .bf16⟩
  | .hbm, ⟨23, _⟩ => ⟨S16x32x1024, .f32⟩
  | .hbm, ⟨24, _⟩ => ⟨S16x32x1024, .bf16⟩
  | .hbm, ⟨25, _⟩ => ⟨S16x32x1408, .f32⟩
  | .hbm, ⟨26, _⟩ => ⟨S16x32x1408, .bf16⟩
  | .hbm, ⟨27, _⟩ => ⟨S16x4x8x1408, .f32⟩
  | .hbm, ⟨28, _⟩ => ⟨S16x32x1408, .f32⟩
  | .hbm, ⟨29, _⟩ => ⟨S16x32x1408, .bf16⟩
  | .hbm, ⟨30, _⟩ => ⟨S16x4x8x1408, .f32⟩
  | .hbm, ⟨31, _⟩ => ⟨S16x32x1408, .f32⟩
  | .hbm, ⟨32, _⟩ => ⟨S16x32x1408, .bf16⟩
  | .hbm, ⟨33, _⟩ => ⟨S16x4x8x1024, .f32⟩
  | .hbm, ⟨34, _⟩ => ⟨S16x32x1024, .f32⟩
  | .hbm, ⟨35, _⟩ => ⟨S16x32x1024, .bf16⟩
  | .hbm, ⟨36, _⟩ => ⟨S16x4x1024, .f32⟩
  | .hbm, ⟨37, _⟩ => ⟨S16x1x1408, .f32⟩
  | .hbm, ⟨38, _⟩ => ⟨S16x1x1408, .f32⟩
  | .hbm, ⟨39, _⟩ => ⟨S16x1x1024, .f32⟩
  | .hbm, ⟨40, _⟩ => ⟨S16x1408x1024, .bf16⟩
  | .hbm, ⟨41, _⟩ => ⟨S16x1408x1024, .bf16⟩
  | .hbm, ⟨42, _⟩ => ⟨S16x1024x1408, .bf16⟩
  | .hbm, ⟨43, _⟩ => ⟨S2048x64, .f32⟩
  | .hbm, ⟨44, _⟩ => ⟨S2048x1024, .bf16⟩
  | .hbm, ⟨45, _⟩ => ⟨S2048x1024, .f32⟩
  | .hbm, ⟨46, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S2816x1024, .f32⟩
  | .local _ .vmem, ⟨4, _⟩ => ⟨S2816x1024, .f32⟩
  | .local _ .vmem, ⟨5, _⟩ => ⟨S1024x2816, .f32⟩
  | .local _ .vmem, ⟨6, _⟩ => ⟨S512x64, .f32⟩
  | .local _ .vmem, ⟨7, _⟩ => ⟨S512x64, .f32⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S2048x64, .f32⟩
  | .local _ .vmem, ⟨12, _⟩ => ⟨S2048x1024, .bf16⟩
  | .local _ .vmem, ⟨13, _⟩ => ⟨S1x1408x1024, .bf16⟩
  | .local _ .vmem, ⟨14, _⟩ => ⟨S1x1408x1024, .bf16⟩
  | .local _ .vmem, ⟨15, _⟩ => ⟨S1x32x1024, .bf16⟩
  | .local _ .vmem, ⟨16, _⟩ => ⟨S1x32x1024, .bf16⟩
  | .local _ .vmem, ⟨17, _⟩ => ⟨S1x32x1408, .bf16⟩
  | .local _ .vmem, ⟨18, _⟩ => ⟨S1x32x1408, .bf16⟩
  | .local _ .vmem, ⟨19, _⟩ => ⟨S1x1x1408, .f32⟩
  | .local _ .vmem, ⟨20, _⟩ => ⟨S1x1x1408, .f32⟩
  | .local _ .vmem, ⟨21, _⟩ => ⟨S1x1408x1024, .bf16⟩
  | .local _ .vmem, ⟨22, _⟩ => ⟨S1x1408x1024, .bf16⟩
  | .local _ .vmem, ⟨23, _⟩ => ⟨S1x32x1024, .bf16⟩
  | .local _ .vmem, ⟨24, _⟩ => ⟨S1x32x1024, .bf16⟩
  | .local _ .vmem, ⟨25, _⟩ => ⟨S1x32x1408, .bf16⟩
  | .local _ .vmem, ⟨26, _⟩ => ⟨S1x32x1408, .bf16⟩
  | .local _ .vmem, ⟨27, _⟩ => ⟨S1x1x1408, .f32⟩
  | .local _ .vmem, ⟨28, _⟩ => ⟨S1x1x1408, .f32⟩
  | .local _ .vmem, ⟨29, _⟩ => ⟨S1x1024x1408, .bf16⟩
  | .local _ .vmem, ⟨30, _⟩ => ⟨S1x1024x1408, .bf16⟩
  | .local _ .vmem, ⟨31, _⟩ => ⟨S1x32x1408, .bf16⟩
  | .local _ .vmem, ⟨32, _⟩ => ⟨S1x32x1408, .bf16⟩
  | .local _ .vmem, ⟨33, _⟩ => ⟨S1x32x1024, .bf16⟩
  | .local _ .vmem, ⟨34, _⟩ => ⟨S1x32x1024, .bf16⟩
  | .local _ .vmem, ⟨35, _⟩ => ⟨S1x1x1024, .f32⟩
  | .local _ .vmem, ⟨36, _⟩ => ⟨S1x1x1024, .f32⟩
  | .local _ .vmem, ⟨37, _⟩ => ⟨S1x4x1024, .f32⟩
  | .local _ .vmem, ⟨38, _⟩ => ⟨S1x4x1024, .f32⟩
  | .local _ .vmem, ⟨39, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24_0 : Ref sig .tc := ⟨.hbm, 43, rfl⟩
abbrev main_call0_v24_1 : Ref sig .tc := ⟨.hbm, 44, rfl⟩
abbrev main_call0_v25 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc1_stg14_0 : Ref sig .tc := ⟨.vmem, 35, rfl⟩
abbrev cc1_stg14_1 : Ref sig .tc := ⟨.vmem, 36, rfl⟩
abbrev cc1_stg15_0 : Ref sig .tc := ⟨.vmem, 37, rfl⟩
abbrev cc1_stg15_1 : Ref sig .tc := ⟨.vmem, 38, rfl⟩
abbrev cc1_stg16_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34
abbrev cc1_sem14_0 : DmaSem sig := 35
abbrev cc1_sem14_1 : DmaSem sig := 36
abbrev cc1_sem15_0 : DmaSem sig := 37
abbrev cc1_sem15_1 : DmaSem sig := 38
abbrev cc1_sem16_0 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 2], ![false, false]⟩

def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : Index := Scalar.indexCast v0
  let c0 : Index := 0#32
  ![v1.toNat, 0]
def k1_off2 (i : grid1.Coords) : Fin 2 → Nat :=
  let arg1 : BitVec 32 := BitVec.ofNat 32 (i 1).val
  let c1024_i32 : BitVec 32 := 1024#32
  let v0 : BitVec 32 := Scalar.muli arg1 c1024_i32
  let v60 : Index := Scalar.indexCast v0
  let c0_11 : Index := 0#32
  ![v60.toNat, 0]
def k1_cond1 (i : grid1.Coords) : BitVec 1 :=
  let arg0 : BitVec 32 := BitVec.ofNat 32 (i 0).val
  let c0_i32_61 : BitVec 32 := 0#32
  let v123 : BitVec 1 := Scalar.cmpi .eq arg0 c0_i32_61
  let v124 : BitVec 32 := Scalar.extui v123
  let c0_i32_62 : BitVec 32 := 0#32
  let v125 : BitVec 1 := Scalar.cmpi .ne v124 c0_i32_62
  v125

def k1_off3 (i : grid1.Coords) : Fin 2 → Nat :=
  let arg1 : BitVec 32 := BitVec.ofNat 32 (i 1).val
  let c1024_i32 : BitVec 32 := 1024#32
  let v0 : BitVec 32 := Scalar.muli arg1 c1024_i32
  let v129 : Index := Scalar.indexCast v0
  let c0_65 : Index := 0#32
  ![v129.toNat, 0]
def k1_cond2 (i : grid1.Coords) : BitVec 1 :=
  let arg0 : BitVec 32 := BitVec.ofNat 32 (i 0).val
  let c0_i32_63 : BitVec 32 := 0#32
  let v126 : BitVec 1 := Scalar.cmpi .sgt arg0 c0_i32_63
  let v127 : BitVec 32 := Scalar.extui v126
  let c0_i32_64 : BitVec 32 := 0#32
  let v128 : BitVec 1 := Scalar.cmpi .ne v127 c0_i32_64
  v128

def k1_off4 (i : grid1.Coords) : Fin 2 → Nat :=
  let arg1 : BitVec 32 := BitVec.ofNat 32 (i 1).val
  let c1024_i32 : BitVec 32 := 1024#32
  let v0 : BitVec 32 := Scalar.muli arg1 c1024_i32
  let v129 : Index := Scalar.indexCast v0
  let c0_65 : Index := 0#32
  ![v129.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1408x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x32x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x32x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1408x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x32x1408 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1408 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1024x1408 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x32x1408 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x32x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x1x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x4x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 1 → Memref sig .tc .vmem S2048x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]
-- ==== ReferenceIdeal.lean ====
abbrev S1x2048x1024 : Shape := ⟨3, ![1, 2048, 1024]⟩
abbrev S64x1024 : Shape := ⟨2, ![64, 1024]⟩
abbrev S16x1024x4 : Shape := ⟨3, ![16, 1024, 4]⟩
abbrev S16x1408x1024 : Shape := ⟨3, ![16, 1408, 1024]⟩
abbrev S16x4x8x1024 : Shape := ⟨4, ![16, 4, 8, 1024]⟩
abbrev S16x4x1408x8 : Shape := ⟨4, ![16, 4, 1408, 8]⟩
abbrev S16x1408 : Shape := ⟨2, ![16, 1408]⟩
abbrev S16x1024x1408 : Shape := ⟨3, ![16, 1024, 1408]⟩
abbrev S16x4x8x1408 : Shape := ⟨4, ![16, 4, 8, 1408]⟩
abbrev S16x4x1024x8 : Shape := ⟨4, ![16, 4, 1024, 8]⟩
abbrev S16x1024 : Shape := ⟨2, ![16, 1024]⟩
abbrev S2816x1024 : Shape := ⟨2, ![2816, 1024]⟩
abbrev S1024x2816 : Shape := ⟨2, ![1024, 2816]⟩
abbrev S16x4 : Shape := ⟨2, ![16, 4]⟩
abbrev S2048x1024 : Shape := ⟨2, ![2048, 1024]⟩
abbrev S1024x64 : Shape := ⟨2, ![1024, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S1x2048x1x8 : Shape := ⟨4, ![1, 2048, 1, 8]⟩
abbrev S16x1x4x1 : Shape := ⟨4, ![16, 1, 4, 1]⟩
abbrev S16x2048x4x8 : Shape := ⟨4, ![16, 2048, 4, 8]⟩
abbrev S16x2048x4 : Shape := ⟨3, ![16, 2048, 4]⟩
abbrev S16x2048 : Shape := ⟨2, ![16, 2048]⟩
abbrev S16x2048x1 : Shape := ⟨3, ![16, 2048, 1]⟩
abbrev S16x2048x1024 : Shape := ⟨3, ![16, 2048, 1024]⟩
abbrev S16x2048x1408 : Shape := ⟨3, ![16, 2048, 1408]⟩
abbrev S16x4x1408x2048 : Shape := ⟨4, ![16, 4, 1408, 2048]⟩
abbrev S16x2048x4x1408 : Shape := ⟨4, ![16, 2048, 4, 1408]⟩
abbrev S16x2048x4x1 : Shape := ⟨4, ![16, 2048, 4, 1]⟩
abbrev S16x1x1408 : Shape := ⟨3, ![16, 1, 1408]⟩
abbrev S16x4x1024x2048 : Shape := ⟨4, ![16, 4, 1024, 2048]⟩
abbrev S16x2048x4x1024 : Shape := ⟨4, ![16, 2048, 4, 1024]⟩
abbrev S16x1x1024 : Shape := ⟨3, ![16, 1, 1024]⟩
abbrev S1x2048x2816 : Shape := ⟨3, ![1, 2048, 2816]⟩

abbrev nBuf : Space → Nat
  | .hbm => 148
  | .vmem => 0
  | .smem => 0
  | _ => 0

abbrev hbmTy0_0 (i : Nat) : BufTy := match i % 128 with
  | 0 => ⟨S1x2048x1024, .f32⟩
  | 1 => ⟨S64x1024, .f32⟩
  | 2 => ⟨S16x1024x4, .f32⟩
  | 3 => ⟨S16x1408x1024, .f32⟩
  | 4 => ⟨S16x4x8x1024, .f32⟩
  | 5 => ⟨S16x4x1408x8, .f32⟩
  | 6 => ⟨S16x1408, .f32⟩
  | 7 => ⟨S16x1408x1024, .f32⟩
  | 8 => ⟨S16x4x8x1024, .f32⟩
  | 9 => ⟨S16x4x1408x8, .f32⟩
  | 10 => ⟨S16x1408, .f32⟩
  | 11 => ⟨S16x1024x1408, .f32⟩
  | 12 => ⟨S16x4x8x1408, .f32⟩
  | 13 => ⟨S16x4x1024x8, .f32⟩
  | 14 => ⟨S16x1024, .f32⟩
  | 15 => ⟨S2816x1024, .f32⟩
  | 16 => ⟨S2816x1024, .f32⟩
  | 17 => ⟨S1024x2816, .f32⟩
  | 18 => ⟨S16x4, .i32⟩
  | 19 => ⟨S2048x1024, .f32⟩
  | 20 => ⟨S1024x64, .f32⟩
  | 21 => ⟨S2048x64, .f32⟩
  | 22 => ⟨S_, .f32⟩
  | 23 => ⟨S2048, .f32⟩
  | 24 => ⟨S_, .f32⟩
  | 25 => ⟨S2048, .f32⟩
  | 26 => ⟨S2048, .f32⟩
  | 27 => ⟨S2048x1, .f32⟩
  | 28 => ⟨S2048x64, .f32⟩
  | 29 => ⟨S2048x64, .f32⟩
  | 30 => ⟨S2048x64, .f32⟩
  | 31 => ⟨S_, .f32⟩
  | 32 => ⟨S2048, .f32⟩
  | 33 => ⟨S2048x1, .f32⟩
  | 34 => ⟨S2048x64, .f32⟩
  | 35 => ⟨S2048x64, .f32⟩
  | 36 => ⟨S2048x8, .f32⟩
  | 37 => ⟨S2048x8, .i32⟩
  | 38 => ⟨S1x2048x1x8, .i32⟩
  | 39 => ⟨S16x1x4x1, .i32⟩
  | 40 => ⟨S16x2048x4x8, .i32⟩
  | 41 => ⟨S16x2048x4x8, .i32⟩
  | 42 => ⟨S16x2048x4x8, .i1⟩
  | 43 => ⟨S16x2048x4x8, .f32⟩
  | 44 => ⟨S1x2048x1x8, .f32⟩
  | 45 => ⟨S16x2048x4x8, .f32⟩
  | 46 => ⟨S16x2048x4x8, .f32⟩
  | 47 => ⟨S_, .f32⟩
  | 48 => ⟨S16x2048x4, .f32⟩
  | 49 => ⟨S_, .f32⟩
  | 50 => ⟨S16x2048, .f32⟩
  | 51 => ⟨S16x2048x1, .f32⟩
  | 52 => ⟨S_, .f32⟩
  | 53 => ⟨S16x2048x4, .f32⟩
  | 54 => ⟨S16x2048x4, .i1⟩
  | 55 => ⟨S_, .f32⟩
  | 56 => ⟨S_, .f32⟩
  | 57 => ⟨S16x2048x4, .f32⟩
  | 58 => ⟨S16x2048x4, .f32⟩
  | 59 => ⟨S_, .f32⟩
  | 60 => ⟨S16x2048, .f32⟩
  | 61 => ⟨S_, .f32⟩
  | 62 => ⟨S16x2048, .f32⟩
  | 63 => ⟨S16x2048, .f32⟩
  | 64 => ⟨S16x2048x1, .f32⟩
  | 65 => ⟨S16x2048x4, .f32⟩
  | 66 => ⟨S16x2048x4, .f32⟩
  | 67 => ⟨S16x2048x4, .f32⟩
  | 68 => ⟨S_, .f32⟩
  | 69 => ⟨S16x2048, .f32⟩
  | 70 => ⟨S16x2048x1, .f32⟩
  | 71 => ⟨S16x2048x4, .f32⟩
  | 72 => ⟨S16x2048x4, .f32⟩
  | 73 => ⟨S1x2048x1024, .f32⟩
  | 74 => ⟨S16x2048x1024, .f32⟩
  | 75 => ⟨S16x2048x1024, .f32⟩
  | 76 => ⟨S16x2048x1024, .f32⟩
  | 77 => ⟨S16x2048x1408, .f32⟩
  | 78 => ⟨S16x2048x4x8, .f32⟩
  | 79 => ⟨S16x4x1408x2048, .f32⟩
  | 80 => ⟨S16x2048x4x1408, .f32⟩
  | 81 => ⟨S16x2048x4x1, .f32⟩
  | 82 => ⟨S16x2048x4x1408, .f32⟩
  | 83 => ⟨S16x2048x4x1408, .f32⟩
  | 84 => ⟨S_, .f32⟩
  | 85 => ⟨S16x2048x1408, .f32⟩
  | 86 => ⟨S16x1x1408, .f32⟩
  | 87 => ⟨S16x2048x1408, .f32⟩
  | 88 => ⟨S16x2048x1408, .f32⟩
  | 89 => ⟨S16x2048x1408, .f32⟩
  | 90 => ⟨S16x2048x1408, .f32⟩
  | 91 => ⟨S16x2048x1408, .f32⟩
  | 92 => ⟨S_, .f32⟩
  | 93 => ⟨S16x2048x1408, .f32⟩
  | 94 => ⟨S16x2048x1408, .f32⟩
  | 95 => ⟨S_, .f32⟩
  | 96 => ⟨S16x2048x1408, .f32⟩
  | 97 => ⟨S16x2048x1408, .f32⟩
  | 98 => ⟨S16x2048x1408, .f32⟩
  | 99 => ⟨S16x2048x1408, .f32⟩
  | 100 => ⟨S16x2048x4x8, .f32⟩
  | 101 => ⟨S16x4x1408x2048, .f32⟩
  | 102 => ⟨S16x2048x4x1408, .f32⟩
  | 103 => ⟨S16x2048x4x1, .f32⟩
  | 104 => ⟨S16x2048x4x1408, .f32⟩
  | 105 => ⟨S16x2048x4x1408, .f32⟩
  | 106 => ⟨S_, .f32⟩
  | 107 => ⟨S16x2048x1408, .f32⟩
  | 108 => ⟨S16x1x1408, .f32⟩
  | 109 => ⟨S16x2048x1408, .f32⟩
  | 110 => ⟨S16x2048x1408, .f32⟩
  | 111 => ⟨S16x2048x1408, .f32⟩
  | 112 => ⟨S16x2048x1408, .f32⟩
  | 113 => ⟨S16x2048x1024, .f32⟩
  | 114 => ⟨S16x2048x4x8, .f32⟩
  | 115 => ⟨S16x4x1024x2048, .f32⟩
  | 116 => ⟨S16x2048x4x1024, .f32⟩
  | 117 => ⟨S16x2048x4x1, .f32⟩
  | 118 => ⟨S16x2048x4x1024, .f32⟩
  | 119 => ⟨S16x2048x4x1024, .f32⟩
  | 120 => ⟨S_, .f32⟩
  | 121 => ⟨S16x2048x1024, .f32⟩
  | 122 => ⟨S16x1x1024, .f32⟩
  | 123 => ⟨S16x2048x1024, .f32⟩
  | 124 => ⟨S16x2048x1024, .f32⟩
  | 125 => ⟨S16x2048x1024, .f32⟩
  | 126 => ⟨S16x2048x1024, .f32⟩
  | 127 => ⟨S16x2048x1024, .f32⟩
  | _ => ⟨S1x2048x1024, .f32⟩

abbrev hbmTy0_1 (i : Nat) : BufTy := match i % 128 with
  | 0 => ⟨S_, .f32⟩
  | 1 => ⟨S2048x1024, .f32⟩
  | 2 => ⟨S1x2048x1024, .f32⟩
  | 3 => ⟨S1024x2816, .f32⟩
  | 4 => ⟨S1x2048x2816, .f32⟩
  | 5 => ⟨S1x2048x2816, .f32⟩
  | 6 => ⟨S1x2048x2816, .f32⟩
  | 7 => ⟨S_, .f32⟩
  | 8 => ⟨S1x2048x2816, .f32⟩
  | 9 => ⟨S1x2048x2816, .f32⟩
  | 10 => ⟨S_, .f32⟩
  | 11 => ⟨S1x2048x2816, .f32⟩
  | 12 => ⟨S1x2048x2816, .f32⟩
  | 13 => ⟨S1x2048x2816, .f32⟩
  | 14 => ⟨S1024x2816, .f32⟩
  | 15 => ⟨S1x2048x2816, .f32⟩
  | 16 => ⟨S1x2048x2816, .f32⟩
  | 17 => ⟨S2816x1024, .f32⟩
  | 18 => ⟨S1x2048x1024, .f32⟩
  | 19 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_values : Ref sig .tc := ⟨.hbm, 36, rfl⟩
abbrev main_indices : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_11 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_12 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩

abbrev nD : Nat := 1
abbrev τ : Topo := Topo.v7x

variable {F : FTy → Type} [FloatOps F]
-- ==== Proof.Overlay.lean ====
module

public import Idealize.ShloMosaic.Lib.Pipeline.FrameBody
public import Idealize.ShloMosaic.Lib.Pipeline.Value

/-!
What a buffer reads after one store: the old contents with the stored rectangle replaced.
-/

@[expose] public section

namespace Cert.Overlay

open Idealize.ShloMosaic

variable {sig : RefSig} {κ : Kind} {sp : Space} {s : Shape} {e : EltTy} {Val : EltTy → Type}

/-- One store replaces the rectangle it goes through and keeps everything else. -/
theorem read_writes_one (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem _ _ _ _ (by rw [Rect.map_emb_univ]; exact hy), View.writes_nil]

/-- A store through the rectangle that is the whole buffer leaves the stored value. -/
theorem overlay_whole {α : Type} {off : Fin s.rank → ℕ} (h : off = fun _ => 0) (inb : ∀ a, off a + s.size a ≤ s.size a)
    (X : s.Idx → α) (w : s.Idx → α) : (Rect.unit off s.size inb).overlay X w = w := by
  subst h
  funext y
  have hy : (Rect.unit (fun _ => 0) s.size inb).emb y = y := funext fun a => Fin.ext (by
    show 0 + 1 * (y a).val = (y a).val
    omega)
  exact (congrArg ((Rect.unit (fun _ => 0) s.size inb).overlay X w) hy.symm).trans
    (Rect.overlay_emb (Rect.unit (fun _ => 0) s.size inb) X w y)

end Cert.Overlay
-- ==== Proof.RegionRun.lean ====
module

public import Idealize.ShloMosaic.Lib.Pipeline.Frame
public import Idealize.ShloMosaic.Lib.Pipeline.Regions
public import Idealize.ShloMosaic.Lib.Pipeline.RegionArrays

/-!
A kernel region between two valuations of the unscoped buffers: the region takes the windows' arrays out of the first
valuation, and what its body's relation allows the arrays to hold at the end is the second valuation.
-/

@[expose] public section

noncomputable section

namespace Cert.RegionRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {Λ₀ : Idealize.SL.Sem.Labels} {P : Type} [Fintype P]

local notation "𝕄" => MT nD τ sig Unit Val ℕ (UR sig nD τ) ℕ

variable (pcs : P → PCfg sig Λ₀ Val) (a : (p : P) → (pcs p).Adm)
  (rdats : (p : P) → (c : Dev nD) → RDat τ Val Unit ℕ (UR sig nD τ) ℕ (pin pcs a p) c)
  (defs₀ : Defs nD τ sig Val Λ₀) (p : P)

omit [Fintype P] in
/-- The buffers behind the windows, listed by window, are those buffers held. -/
theorem listed_held (kit : PLaunchFacts (nD := nD) (τ := τ) pcs p) (c : Dev nD) (W : Valuation τ sig Val) :
    (bigSep Finset.univ fun w : Fin (pcs p).W =>
        (((c.tc : Thread nD τ).loc (arrRef (pcs p).spec w)) ↦{fullShare} W (Proc.devRef .tc (arrRef (pcs p).spec w)) : sProp 𝕄))
      = StableHlo.held (c.tc : Thread nD τ) (arrRefs (pcs p).spec) W := by
  have himg : Finset.univ.image (arrRef (pcs p).spec) = Finset.univ.map ⟨arrRef (pcs p).spec, kit.win.arr_inj⟩ :=
    (Finset.map_eq_image ⟨arrRef (pcs p).spec, kit.win.arr_inj⟩ Finset.univ).symm
  unfold StableHlo.held arrRefs
  rw [himg, bigSep_map, bigSep_map]
  rfl

/-- What enters a region and leaves it beside the buffers: the generator's register and an empty debt. -/
def beside (c : Dev nD) : sProp 𝕄 :=
  iprop((∃ r, prngReg c r) ∗ ∃ D, owes (c : Thread nD τ) (0 : CellTallies nD τ sig Unit) D)

omit [Fintype P] in
/-- At the exit every array holds what its relation names, which is the second valuation. -/
theorem exit_held (kit : PLaunchFacts (nD := nD) (τ := τ) pcs p) (c : Dev nD) (W : Valuation τ sig Val)
    (hshare : ∀ w, (rdats p c).share w = fullShare)
    (hF : ∀ w F, (rdats p c).ArrAt w (pin pcs a p).N F → F = W (Proc.devRef .tc (arrRef (pcs p).spec w))) :
    ((rdats p c).arraysAt (pin pcs a p).N : sProp 𝕄) ⊢ StableHlo.held (c.tc : Thread nD τ) (arrRefs (pcs p).spec) W := by
  rw [← listed_held pcs p kit c W]
  unfold RDat.arraysAt
  refine bigSep_mono fun w _ => ?_
  rw [(kit.arr_whole w).set_eq_univ, hshare]
  show (iprop(∃ F, ⌜(rdats p c).ArrAt w (pin pcs a p).N F⌝ ∗ (((c.tc : Thread nD τ).loc (arrRef (pcs p).spec w)) ↦{fullShare} F)) : sProp 𝕄)
    ⊢ iprop(((c.tc : Thread nD τ).loc (arrRef (pcs p).spec w)) ↦{fullShare} W (Proc.devRef .tc (arrRef (pcs p).spec w)))
  iintro ⟨%F, %h, H⟩
  rw [hF w F h]
  iexact H

/-- A region whose body owes nothing and uses the scoped buffers at will, from the unscoped buffers at `W` to the
    unscoped buffers at `W'`. -/
def region (kit : PLaunchFacts (nD := nD) (τ := τ) pcs p) (hK : (pcs p).pre.K = 0)
    (hbody : ∀ c, (rdats p c).BodyObligation defs₀ Variants.none () Set.univ)
    (howed : ∀ c t, (rdats p c).owed t = 0) (hrec : ∀ c, (rdats p c).recorded 0 = Set.univ)
    (hshare : ∀ c w, (rdats p c).share w = fullShare)
    (hΦ : ∀ c t, (rdats p c).Φ t = ΦA (U := UR sig nD τ) (Val := Val) (pin pcs a p).spec c)
    (W W' : Dev nD → Valuation τ sig Val)
    (hA : ∀ c w, (rdats p c).A w = W c (Proc.devRef .tc (arrRef (pcs p).spec w)))
    (hF : ∀ c w F, (rdats p c).ArrAt w (pin pcs a p).N F → F = W' c (Proc.devRef .tc (arrRef (pcs p).spec w)))
    (hrest : ∀ c, ∀ b ∈ ucRefs τ sig \ arrRefs (pcs p).spec, W c b = W' c b) :
    RDat.RegionSeg pcs a rdats () defs₀ Variants.none (fun _ => ∅) (fun _ _ => 0) p where
  win := kit.to₀.win
  block_pos := kit.block_pos
  stage_whole := kit.stage_whole
  K := PEmpty
  osem k := k.elim
  ho := OwnSemFacts.none _
  hbody := hbody
  hwaits c := RDat.hwaits_of_owed_zero pcs a rdats () (fun _ => ∅) (fun _ _ => 0) p howed c
  pre c := iprop(StableHlo.held (c.tc : Thread nD τ) (ucRefs τ sig) (W c) ∗ beside c)
  post c := iprop(StableHlo.held (c.tc : Thread nD τ) (ucRefs τ sig) (W' c) ∗ beside c)
  X c := iprop(∃ r, prngReg c r)
  Y c := iprop(∃ r, prngReg c r)
  Z c := StableHlo.held (c.tc : Thread nD τ) (ucRefs τ sig \ arrRefs (pcs p).spec) (W c)
  hentry c := by
    have harr : (StableHlo.held (c.tc : Thread nD τ) (arrRefs (pcs p).spec) (W c) : sProp 𝕄) = (rdats p c).arrays (rdats p c).A := by
      rw [← listed_held pcs p kit c (W c)]
      unfold RDat.arrays
      refine bigSep_congr fun w _ => ?_
      rw [(kit.arr_whole w).set_eq_univ, hshare, hA]
    rw [ownSems0_none, prefHeld_of_none _ hK, ← harr,
      StableHlo.held_sub_split (c.tc : Thread nD τ) (arrRefs_sub_ucRefs (pcs p).spec kit.win.arr_unscoped) (W c)]
    unfold beside
    iintro ⟨⟨⟨Ha, Hz⟩, Hp, ⟨%D, HO⟩⟩, -, -⟩
    imodintro
    isplitl [Ha]; · iexact Ha
    isplitr; · iempintro
    isplitl [HO]
    · unfold RDat.owesAt owesWithin RDat.bound
      rw [howed c 0, hrec c]
      iexists D; isplitr; · ipureintro; exact fun _ _ => Or.inl trivial
      iexact HO
    isplitl [Hp]; · iexact Hp
    iexact Hz
  hin c := by
    rw [hΦ]; unfold ΦA
    iintro ⟨HX, -, Hr⟩
    isplitl [Hr]; · iexact Hr
    iexact HX
  hout c := by
    rw [hΦ, ownSems0_none]; unfold ΦA
    iintro ⟨Hr, HX⟩
    isplitl [HX]; · iexact HX
    isplitr; · iempintro
    iexact Hr
  hexit c := by
    rw [StableHlo.held_sub_split (c.tc : Thread nD τ) (arrRefs_sub_ucRefs (pcs p).spec kit.win.arr_unscoped) (W' c),
      StableHlo.held_congr (c.tc : Thread nD τ) (hrest c)]
    unfold beside
    iintro ⟨Ha, HO, HY, HZ⟩
    imodintro
    isplitl [Ha HZ]
    · isplitl [Ha]
      · iapply (exit_held pcs a rdats p kit c (W' c) (hshare c) (hF c)); iexact Ha
      iexact HZ
    isplitl [HY]; · iexact HY
    unfold RDat.owesAt owesWithin
    rw [howed c (Fin.last _)]
    icases HO with ⟨%D, -, HO⟩; iexists D; iexact HO

end Cert.RegionRun

end
-- ==== Proof.KernelIdealExpert.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import proofs.«01_k».proof.Proof.Overlay

/-!
One grid point of the experts' region: the tile it reads, the term it computes for its expert, and the rows of the
result buffer it replaces.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 400000

/-- The mixing weights of the expert's four members on the tile's rows. -/
def wts1 (i : grid1.Coords) (x1 : Vec F S2048x64 .f32) : FVec F S1024x4 .f32 :=
  k1_pay6 i (View.ld x1 (Rect.unit (s := S2048x64) (k1_off1 i) S1024x64.size (k1_off1_inb i)))

/-- The weights spread over the 32 low-rank lanes. -/
def lanes1 (i : grid1.Coords) (x1 : Vec F S2048x64 .f32) : FVec F S1024x32 .f32 :=
  k1_pay9 (wts1 i x1) (iota .tc S4x32 32 [0] iota_S4x32_d0_w32) (iota .tc S4x32 32 [1] iota_S4x32_d1_w32) 8#32 k1_pay7 k1_pay8
    (Scalar.extui (Scalar.cmpi .sgt 8#32 0#32)) 0#32

/-- The tile's rows of activations with the mixed correction added. -/
def act1 (i : grid1.Coords) (x0 : Vec F S2048x1024 .bf16) (x1 : Vec F S2048x64 .f32) (x15 : Vec F S1x4x1024 .f32) :
    FVec F S1024x1024 .bf16 :=
  k1_pay10 (wts1 i x1) (View.ld x0 (Rect.unit (s := S2048x1024) (k1_off2 i) S1024x1024.size (k1_off2_inb i))) (View.ld x15 (Rect.unit (s := S1x4x1024) ![0, 0, 0] S1x4x1024.size inb_S1x4x1024_S1x4x1024_0_0_0))

/-- The dense part of the gate projection. -/
def gateMain1 (i : grid1.Coords) (x0 : Vec F S2048x1024 .bf16) (x1 : Vec F S2048x64 .f32) (x3 : Vec F S1x1408x1024 .bf16)
    (x15 : Vec F S1x4x1024 .f32) : FVec F S1024x1408 .f32 :=
  k1_pay11 (wts1 i x1) (View.ld x0 (Rect.unit (s := S2048x1024) (k1_off2 i) S1024x1024.size (k1_off2_inb i))) (View.ld x15 (Rect.unit (s := S1x4x1024) ![0, 0, 0] S1x4x1024.size inb_S1x4x1024_S1x4x1024_0_0_0)) (View.ld x3 (Rect.unit (s := S1x1408x1024) ![0, 0, 0] S1x1408x1024.size inb_S1x1408x1024_S1x1408x1024_0_0_0))

/-- The low-rank part of the gate projection. -/
def gateLow1 (i : grid1.Coords) (x0 : Vec F S2048x1024 .bf16) (x1 : Vec F S2048x64 .f32) (x4 : Vec F S1x32x1024 .bf16)
    (x5 : Vec F S1x32x1408 .bf16) (x15 : Vec F S1x4x1024 .f32) : FVec F S1024x1408 .f32 :=
  k1_pay12 (wts1 i x1) (iota .tc S4x32 32 [0] iota_S4x32_d0_w32) (iota .tc S4x32 32 [1] iota_S4x32_d1_w32) 8#32 k1_pay7 k1_pay8
    (Scalar.extui (Scalar.cmpi .sgt 8#32 0#32)) 0#32 (View.ld x0 (Rect.unit (s := S2048x1024) (k1_off2 i) S1024x1024.size (k1_off2_inb i))) (View.ld x15 (Rect.unit (s := S1x4x1024) ![0, 0, 0] S1x4x1024.size inb_S1x4x1024_S1x4x1024_0_0_0)) (View.ld x4 (Rect.unit (s := S1x32x1024) ![0, 0, 0] S1x32x1024.size inb_S1x32x1024_S1x32x1024_0_0_0)) (View.ld x5 (Rect.unit (s := S1x32x1408) ![0, 0, 0] S1x32x1408.size inb_S1x32x1408_S1x32x1408_0_0_0))

/-- The dense part of the down projection of the expert's hidden rows. -/
def downMain1 (i : grid1.Coords) (x0 : Vec F S2048x1024 .bf16) (x1 : Vec F S2048x64 .f32) (x2 : Vec F S2048x1024 .bf16) (x3 : Vec F S1x1408x1024 .bf16) (x4 : Vec F S1x32x1024 .bf16) (x5 : Vec F S1x32x1408 .bf16) (x6 : Vec F S1x1x1408 .f32) (x7 : Vec F S1x1408x1024 .bf16) (x8 : Vec F S1x32x1024 .bf16) (x9 : Vec F S1x32x1408 .bf16) (x10 : Vec F S1x1x1408 .f32) (x11 : Vec F S1x1024x1408 .bf16) (x12 : Vec F S1x32x1408 .bf16) (x13 : Vec F S1x32x1024 .bf16) (x14 : Vec F S1x1x1024 .f32) (x15 : Vec F S1x4x1024 .f32) : FVec F S1024x1024 .f32 :=
  k1_pay14 (lanes1 i x1) (act1 i x0 x1 x15) (gateMain1 i x0 x1 x3 x15) (gateLow1 i x0 x1 x4 x5 x15) (View.ld x6 (Rect.unit (s := S1x1x1408) ![0, 0, 0] S1x1x1408.size inb_S1x1x1408_S1x1x1408_0_0_0)) (View.ld x7 (Rect.unit (s := S1x1408x1024) ![0, 0, 0] S1x1408x1024.size inb_S1x1408x1024_S1x1408x1024_0_0_0)) (View.ld x8 (Rect.unit (s := S1x32x1024) ![0, 0, 0] S1x32x1024.size inb_S1x32x1024_S1x32x1024_0_0_0)) (View.ld x9 (Rect.unit (s := S1x32x1408) ![0, 0, 0] S1x32x1408.size inb_S1x32x1408_S1x32x1408_0_0_0))
    (View.ld x10 (Rect.unit (s := S1x1x1408) ![0, 0, 0] S1x1x1408.size inb_S1x1x1408_S1x1x1408_0_0_0)) (View.ld x11 (Rect.unit (s := S1x1024x1408) ![0, 0, 0] S1x1024x1408.size inb_S1x1024x1408_S1x1024x1408_0_0_0))

/-- The low-rank part of the down projection, before its second factor. -/
def downLow1 (i : grid1.Coords) (x0 : Vec F S2048x1024 .bf16) (x1 : Vec F S2048x64 .f32) (x2 : Vec F S2048x1024 .bf16) (x3 : Vec F S1x1408x1024 .bf16) (x4 : Vec F S1x32x1024 .bf16) (x5 : Vec F S1x32x1408 .bf16) (x6 : Vec F S1x1x1408 .f32) (x7 : Vec F S1x1408x1024 .bf16) (x8 : Vec F S1x32x1024 .bf16) (x9 : Vec F S1x32x1408 .bf16) (x10 : Vec F S1x1x1408 .f32) (x11 : Vec F S1x1024x1408 .bf16) (x12 : Vec F S1x32x1408 .bf16) (x13 : Vec F S1x32x1024 .bf16) (x14 : Vec F S1x1x1024 .f32) (x15 : Vec F S1x4x1024 .f32) : FVec F S1024x32 .bf16 :=
  k1_pay15 (lanes1 i x1) (act1 i x0 x1 x15) (gateMain1 i x0 x1 x3 x15) (gateLow1 i x0 x1 x4 x5 x15) (View.ld x6 (Rect.unit (s := S1x1x1408) ![0, 0, 0] S1x1x1408.size inb_S1x1x1408_S1x1x1408_0_0_0)) (View.ld x7 (Rect.unit (s := S1x1408x1024) ![0, 0, 0] S1x1408x1024.size inb_S1x1408x1024_S1x1408x1024_0_0_0)) (View.ld x8 (Rect.unit (s := S1x32x1024) ![0, 0, 0] S1x32x1024.size inb_S1x32x1024_S1x32x1024_0_0_0)) (View.ld x9 (Rect.unit (s := S1x32x1408) ![0, 0, 0] S1x32x1408.size inb_S1x32x1408_S1x32x1408_0_0_0))
    (View.ld x10 (Rect.unit (s := S1x1x1408) ![0, 0, 0] S1x1x1408.size inb_S1x1x1408_S1x1x1408_0_0_0)) (View.ld x12 (Rect.unit (s := S1x32x1408) ![0, 0, 0] S1x32x1408.size inb_S1x32x1408_S1x32x1408_0_0_0))

/-- What the point's store leaves in the result buffer: for the first expert the shared rows plus its term, for a later
expert the rows there plus its term. -/
def step1 (i : grid1.Coords) (x0 : Vec F S2048x1024 .bf16) (x1 : Vec F S2048x64 .f32) (x2 : Vec F S2048x1024 .bf16) (x3 : Vec F S1x1408x1024 .bf16) (x4 : Vec F S1x32x1024 .bf16) (x5 : Vec F S1x32x1408 .bf16) (x6 : Vec F S1x1x1408 .f32) (x7 : Vec F S1x1408x1024 .bf16) (x8 : Vec F S1x32x1024 .bf16) (x9 : Vec F S1x32x1408 .bf16) (x10 : Vec F S1x1x1408 .f32) (x11 : Vec F S1x1024x1408 .bf16) (x12 : Vec F S1x32x1408 .bf16) (x13 : Vec F S1x32x1024 .bf16) (x14 : Vec F S1x1x1024 .f32) (x15 : Vec F S1x4x1024 .f32) (x16 : Vec F S2048x1024 .f32) : Vec F S2048x1024 .f32 :=
  if h : k1_cond1 i = 1#1 then
    (Rect.unit (s := S2048x1024) (k1_off3 i) S1024x1024.size (k1_off3_inb i h)).overlay x16
      (k1_pay2 (k1_pay5 i (View.ld x1 (Rect.unit (s := S2048x64) (k1_off1 i) S1024x64.size (k1_off1_inb i)))) (downMain1 i x0 x1 x2 x3 x4 x5 x6 x7 x8 x9 x10 x11 x12 x13 x14 x15) (downLow1 i x0 x1 x2 x3 x4 x5 x6 x7 x8 x9 x10 x11 x12 x13 x14 x15)
        (View.ld x13 (Rect.unit (s := S1x32x1024) ![0, 0, 0] S1x32x1024.size inb_S1x32x1024_S1x32x1024_0_0_0)) (View.ld x14 (Rect.unit (s := S1x1x1024) ![0, 0, 0] S1x1x1024.size inb_S1x1x1024_S1x1x1024_0_0_0)) (View.ld x2 (Rect.unit (s := S2048x1024) (k1_off3 i) S1024x1024.size (k1_off3_inb i h))))
  else if h' : k1_cond2 i = 1#1 then
    (Rect.unit (s := S2048x1024) (k1_off4 i) S1024x1024.size (k1_off4_inb i h')).overlay x16
      (k1_pay3 (k1_pay5 i (View.ld x1 (Rect.unit (s := S2048x64) (k1_off1 i) S1024x64.size (k1_off1_inb i)))) (downMain1 i x0 x1 x2 x3 x4 x5 x6 x7 x8 x9 x10 x11 x12 x13 x14 x15) (downLow1 i x0 x1 x2 x3 x4 x5 x6 x7 x8 x9 x10 x11 x12 x13 x14 x15)
        (View.ld x13 (Rect.unit (s := S1x32x1024) ![0, 0, 0] S1x32x1024.size inb_S1x32x1024_S1x32x1024_0_0_0)) (View.ld x14 (Rect.unit (s := S1x1x1024) ![0, 0, 0] S1x1x1024.size inb_S1x1x1024_S1x1x1024_0_0_0)) (View.ld x16 (Rect.unit (s := S2048x1024) (k1_off4 i) S1024x1024.size (k1_off4_inb i h'))))
  else x16

/-- A point belongs to the first expert or to a later one. -/
theorem cond_split (i : grid1.Coords) :
    (k1_cond1 i = 1#1 ∧ ¬ k1_cond2 i = 1#1) ∨ (¬ k1_cond1 i = 1#1 ∧ k1_cond2 i = 1#1) := by
  have h : ∀ a : Fin 16,
      (Scalar.cmpi .ne (Scalar.extui (Scalar.cmpi .eq (BitVec.ofNat 32 a.val) 0#32) : BitVec 32) 0#32 = 1#1
        ∧ ¬ Scalar.cmpi .ne (Scalar.extui (Scalar.cmpi .sgt (BitVec.ofNat 32 a.val) 0#32) : BitVec 32) 0#32 = 1#1)
      ∨ (¬ Scalar.cmpi .ne (Scalar.extui (Scalar.cmpi .eq (BitVec.ofNat 32 a.val) 0#32) : BitVec 32) 0#32 = 1#1
        ∧ Scalar.cmpi .ne (Scalar.extui (Scalar.cmpi .sgt (BitVec.ofNat 32 a.val) 0#32) : BitVec 32) 0#32 = 1#1) := by
    decide +kernel
  exact h (i 0)

set_option maxHeartbeats 1000000 in
/-- The body at a point keeps the sixteen inputs and takes the result buffer from `x16` to `step1 … x16`. -/
theorem run1 (c : Dev nD) (i : grid1.Coords) (arg2 : Memref sig .tc .vmem S2048x1024 .bf16) (harg2 : arg2.IsWhole) (arg3 : Memref sig .tc .vmem S2048x64 .f32) (harg3 : arg3.IsWhole) (arg4 : Memref sig .tc .vmem S2048x1024 .bf16) (harg4 : arg4.IsWhole) (arg5 : Memref sig .tc .vmem S1x1408x1024 .bf16) (harg5 : arg5.IsWhole) (arg6 : Memref sig .tc .vmem S1x32x1024 .bf16) (harg6 : arg6.IsWhole) (arg7 : Memref sig .tc .vmem S1x32x1408 .bf16) (harg7 : arg7.IsWhole) (arg8 : Memref sig .tc .vmem S1x1x1408 .f32) (harg8 : arg8.IsWhole) (arg9 : Memref sig .tc .vmem S1x1408x1024 .bf16) (harg9 : arg9.IsWhole) (arg10 : Memref sig .tc .vmem S1x32x1024 .bf16) (harg10 : arg10.IsWhole) (arg11 : Memref sig .tc .vmem S1x32x1408 .bf16) (harg11 : arg11.IsWhole) (arg12 : Memref sig .tc .vmem S1x1x1408 .f32) (harg12 : arg12.IsWhole) (arg13 : Memref sig .tc .vmem S1x1024x1408 .bf16) (harg13 : arg13.IsWhole) (arg14 : Memref sig .tc .vmem S1x32x1408 .bf16) (harg14 : arg14.IsWhole) (arg15 : Memref sig .tc .vmem S1x32x1024 .bf16) (harg15 : arg15.IsWhole) (arg16 : Memref sig .tc .vmem S1x1x1024 .f32) (harg16 : arg16.IsWhole) (arg17 : Memref sig .tc .vmem S1x4x1024 .f32) (harg17 : arg17.IsWhole) (arg18 : Memref sig .tc .vmem S2048x1024 .f32) (harg18 : arg18.IsWhole)
    (x0 : Vec F S2048x1024 .bf16) (x1 : Vec F S2048x64 .f32) (x2 : Vec F S2048x1024 .bf16) (x3 : Vec F S1x1408x1024 .bf16) (x4 : Vec F S1x32x1024 .bf16) (x5 : Vec F S1x32x1408 .bf16) (x6 : Vec F S1x1x1408 .f32) (x7 : Vec F S1x1408x1024 .bf16) (x8 : Vec F S1x32x1024 .bf16) (x9 : Vec F S1x32x1408 .bf16) (x10 : Vec F S1x1x1408 .f32) (x11 : Vec F S1x1024x1408 .bf16) (x12 : Vec F S1x32x1408 .bf16) (x13 : Vec F S1x32x1024 .bf16) (x14 : Vec F S1x1x1024 .f32) (x15 : Vec F S1x4x1024 .f32) (x16 : Vec F S2048x1024 .f32) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (step1 i x0 x1 x2 x3 x4 x5 x6 x7 x8 x9 x10 x11 x12 x13 x14 x15 x16)) -∗ K ⟨⟩))
      ⊢ wp frame (wpE (defs₀ (F := F)) Variants.none c none) E (cc1__moe_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__moe_kernel_eq_skeleton]; unfold cc1__moe_kernel_skel
  simp only [k1_part1_eq_skeleton, k1_part2_eq_skeleton, k1_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  subst hf0 hf1 hf2 hf3 hf4 hf5 hf6 hf7 hf8 hf9 hf10 hf11 hf12 hf13 hf14 hf15 hf16
  rcases cond_split i with ⟨hc0, hc1⟩ | ⟨hc0, hc1⟩ <;> (
    sl_exec (disch := first | sl_exact hc0 | sl_exact hc1)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro
    rw [Cert.Overlay.read_writes_one]
    first
    | rw [step1, dif_pos hc0]; rfl
    | rw [step1, dif_neg hc0, dif_pos hc1]; rfl)

end Cert.KernelIdeal.Gen
-- ==== Proof.KernelIdealGate.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import proofs.«01_k».proof.Proof.Overlay

/-!
One grid point of the gate and shared-expert region: the routing weights and the shared rows it stores.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The routing weights of a block of 512 tokens, as the kernel computes them of the block and of the gate matrix. -/
def route0 (x0 : Vec F S512x1024 .f32) (x1 : Vec F S64x1024 .f32) : FVec F S512x64 .f32 :=
  k0_pay18 (k0_pay3 x0 x1) (iota .tc S512x64 32 [1] iota_S512x64_d1_w32)
    (k0_pay15 (k0_pay3 x0 x1) (iota .tc S512x64 32 [1] iota_S512x64_d1_w32) (k0_pay5 x0 x1) (k0_pay6 x0 x1) (k0_pay7 x0 x1) k0_pay8)
    (k0_pay16 (iota .tc S512x64 32 [1] iota_S512x64_d1_w32) (k0_pay5 x0 x1) (k0_pay6 x0 x1) k0_pay8)
    (k0_pay17 (iota .tc S512x64 32 [1] iota_S512x64_d1_w32) (k0_pay5 x0 x1) (k0_pay6 x0 x1) k0_pay8)

/-- The shared experts' rows of a block of 512 tokens. -/
def shared0 (x0 : Vec F S512x1024 .f32) (x2 x3 : Vec F S2816x1024 .f32) (x4 : Vec F S1024x2816 .f32) : FVec F S512x1024 .bf16 :=
  k0_pay1 (k0_pay19 (k0_pay2 x0) x2 x3) x4

/-- A pair of zero offsets. -/
theorem zero2 : (![0, 0] : Fin 2 → ℕ) = fun _ => 0 := by decide

set_option maxHeartbeats 1000000 in
/-- The body at a point keeps the five inputs and leaves the routing weights and the shared rows in the outputs. -/
theorem run0 (c : Dev nD) (i : grid0.Coords) (arg1 : Memref sig .tc .vmem S512x1024 .f32) (harg1 : arg1.IsWhole) (arg2 : Memref sig .tc .vmem S64x1024 .f32) (harg2 : arg2.IsWhole) (arg3 : Memref sig .tc .vmem S2816x1024 .f32) (harg3 : arg3.IsWhole) (arg4 : Memref sig .tc .vmem S2816x1024 .f32) (harg4 : arg4.IsWhole) (arg5 : Memref sig .tc .vmem S1024x2816 .f32) (harg5 : arg5.IsWhole) (arg6 : Memref sig .tc .vmem S512x64 .f32) (harg6 : arg6.IsWhole) (arg7 : Memref sig .tc .vmem S512x1024 .bf16) (harg7 : arg7.IsWhole)
    (x0 : Vec F S512x1024 .f32) (x1 : Vec F S64x1024 .f32) (x2 : Vec F S2816x1024 .f32) (x3 : Vec F S2816x1024 .f32) (x4 : Vec F S1024x2816 .f32) (x5 : Vec F S512x64 .f32) (x6 : Vec F S512x1024 .bf16) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (route0 x0 x1)
        ∗ owns (c : Thread nD τ) arg7 fullShare (shared0 x0 x2 x3 x4)) -∗ K ⟨⟩))
      ⊢ wp frame (wpE (defs₀ (F := F)) Variants.none c none) E (cc0__gate_shared_kernel i arg1 harg1 arg2 harg2 arg3 harg3 arg4 harg4 arg5 harg5 arg6 harg6 arg7 harg7) K := by
  simp only [cc0__gate_shared_kernel_eq_skeleton]; unfold cc0__gate_shared_kernel_skel
  simp only [k0_part1_eq_skeleton, k0_part2_eq_skeleton, k0_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf0 hf1 hf2 hf3 hf4 hf5 hf6
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    refine (Cert.Overlay.read_writes_one _ _ _ _).trans ((Cert.Overlay.overlay_whole zero2 _ _ _).trans ?_)
    exact Eq.trans (b := route0 (View.ld (arg1.view.read (Elt F) f0) (Rect.unit (s := S512x1024) ![0, 0] S512x1024.size inb_S512x1024_S512x1024_0_0)) (View.ld (arg2.view.read (Elt F) f1) (Rect.unit (s := S64x1024) ![0, 0] S64x1024.size inb_S64x1024_S64x1024_0_0))) rfl
      (congrArg₂ route0 (View.ld_unit_zero zero2 _ _) (View.ld_unit_zero zero2 _ _))
  · iexists _; isplitr; swap; · iexact H6
    ipureintro
    refine (Cert.Overlay.read_writes_one _ _ _ _).trans ((Cert.Overlay.overlay_whole zero2 _ _ _).trans ?_)
    refine Eq.trans (b := shared0 (View.ld (arg1.view.read (Elt F) f0) (Rect.unit (s := S512x1024) ![0, 0] S512x1024.size inb_S512x1024_S512x1024_0_0)) (View.ld (arg3.view.read (Elt F) f2) (Rect.unit (s := S2816x1024) ![0, 0] S2816x1024.size inb_S2816x1024_S2816x1024_0_0)) (View.ld (arg4.view.read (Elt F) f3) (Rect.unit (s := S2816x1024) ![0, 0] S2816x1024.size inb_S2816x1024_S2816x1024_0_0)) (View.ld (arg5.view.read (Elt F) f4) (Rect.unit (s := S1024x2816) ![0, 0] S1024x2816.size inb_S1024x2816_S1024x2816_0_0))) rfl ?_
    rw [View.ld_unit_zero zero2, View.ld_unit_zero zero2, View.ld_unit_zero zero2, View.ld_unit_zero zero2]

end Cert.KernelIdeal.Gen
-- ==== Proof.KernelIdealRegions.lean ====
module

public import proofs.«01_k».proof.Proof.KernelIdealExpert
public import proofs.«01_k».proof.Proof.KernelIdealGate
public import proofs.«01_k».proof.Proof.RegionRun
public import proofs.«01_k».proof.Proof.Gen.KernelIdeal.Regions
public import Idealize.ShloMosaic.Lib.Pipeline.ArrRel
public import Idealize.ShloMosaic.Lib.Pipeline.Value

/-!
The two kernel regions over any contents of the unscoped buffers: what each body may leave, the body obligations, and
the contents of the result arrays at the end of each region.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The block of window `w`'s array that region 0 reads at point `t`. -/
def blk0 (V : Valuation τ sig (Elt F)) (c : Dev nD) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The block of window `w`'s array that region 1 reads at point `t`. -/
def blk1 (V : Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What region 1's point `t` makes of the result buffer's contents. -/
def upd1 (V : Valuation τ sig (Elt F)) (c : Dev nD) (t : Fin cfg1.N) (Y : Vec F S2048x1024 .f32) : Vec F S2048x1024 .f32 :=
  step1 (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) Y

/-- Region 0's data on a core: inputs kept, the routing weights and the shared rows left in the two outputs. -/
def rd0 (V : Valuation τ sig (Elt F)) (c : Dev nD) : RDat τ (Elt F) Unit ℕ (UR sig nD τ) ℕ cfg0 c where
  A w := V (Proc.devRef .tc (Pipeline.arrRef spec0 w))
  after := fun
    | ⟨5, _⟩ => fun t _ X => X = route0 (blk0 V c 0 t) (blk0 V c 1 t)
    | ⟨6, _⟩ => fun t _ X => X = shared0 (blk0 V c 0 t) (blk0 V c 2 t) (blk0 V c 3 t) (blk0 V c 4 t)
    | _ => fun _ Y X => X = Y
  Φ _ := Pipeline.ΦA (U := UR sig nD τ) (Val := Elt F) spec0 c
  q _ := fullShare
  owed _ := 0

/-- Region 1's data on a core: inputs kept, the result buffer's rows of the point replaced. -/
def rd1 (V : Valuation τ sig (Elt F)) (c : Dev nD) : RDat τ (Elt F) Unit ℕ (UR sig nD τ) ℕ cfg1 c where
  A w := V (Proc.devRef .tc (Pipeline.arrRef spec1 w))
  after := fun
    | ⟨16, _⟩ => fun t Y X => X = upd1 V c t Y
    | _ => fun _ Y X => X = Y
  Φ _ := Pipeline.ΦA (U := UR sig nD τ) (Val := Elt F) spec1 c
  q _ := fullShare
  owed _ := 0

/-- Input 0 of region 0 is handed over at its block. -/
theorem finds0_0 (V : Valuation τ sig (Elt F)) (c : Dev nD) (t : Fin cfg0.N) (Y) (h : (rd0 V c).Finds 0 t Y) : Y = blk0 V c 0 t := by
  obtain ⟨d, rfl⟩ := (rd0 V c).finds_in_eq_fetched 0 rfl (fun _ _ _ => rfl) (fun _ _ _ h => h) t Y h
  rfl
/-- Input 1 of region 0 is handed over at its block. -/
theorem finds0_1 (V : Valuation τ sig (Elt F)) (c : Dev nD) (t : Fin cfg0.N) (Y) (h : (rd0 V c).Finds 1 t Y) : Y = blk0 V c 1 t := by
  obtain ⟨d, rfl⟩ := (rd0 V c).finds_in_eq_fetched 1 rfl (fun _ _ _ => rfl) (fun _ _ _ h => h) t Y h
  rfl
/-- Input 2 of region 0 is handed over at its block. -/
theorem finds0_2 (V : Valuation τ sig (Elt F)) (c : Dev nD) (t : Fin cfg0.N) (Y) (h : (rd0 V c).Finds 2 t Y) : Y = blk0 V c 2 t := by
  obtain ⟨d, rfl⟩ := (rd0 V c).finds_in_eq_fetched 2 rfl (fun _ _ _ => rfl) (fun _ _ _ h => h) t Y h
  rfl
/-- Input 3 of region 0 is handed over at its block. -/
theorem finds0_3 (V : Valuation τ sig (Elt F)) (c : Dev nD) (t : Fin cfg0.N) (Y) (h : (rd0 V c).Finds 3 t Y) : Y = blk0 V c 3 t := by
  obtain ⟨d, rfl⟩ := (rd0 V c).finds_in_eq_fetched 3 rfl (fun _ _ _ => rfl) (fun _ _ _ h => h) t Y h
  rfl
/-- Input 4 of region 0 is handed over at its block. -/
theorem finds0_4 (V : Valuation τ sig (Elt F)) (c : Dev nD) (t : Fin cfg0.N) (Y) (h : (rd0 V c).Finds 4 t Y) : Y = blk0 V c 4 t := by
  obtain ⟨d, rfl⟩ := (rd0 V c).finds_in_eq_fetched 4 rfl (fun _ _ _ => rfl) (fun _ _ _ h => h) t Y h
  rfl
/-- Input 0 of region 1 is handed over at its block. -/
theorem finds1_0 (V : Valuation τ sig (Elt F)) (c : Dev nD) (t : Fin cfg1.N) (Y) (h : (rd1 V c).Finds 0 t Y) : Y = blk1 V c 0 t := by
  obtain ⟨d, rfl⟩ := (rd1 V c).finds_in_eq_fetched 0 rfl (fun _ _ _ => rfl) (fun _ _ _ h => h) t Y h
  rfl
/-- Input 1 of region 1 is handed over at its block. -/
theorem finds1_1 (V : Valuation τ sig (Elt F)) (c : Dev nD) (t : Fin cfg1.N) (Y) (h : (rd1 V c).Finds 1 t Y) : Y = blk1 V c 1 t := by
  obtain ⟨d, rfl⟩ := (rd1 V c).finds_in_eq_fetched 1 rfl (fun _ _ _ => rfl) (fun _ _ _ h => h) t Y h
  rfl
/-- Input 2 of region 1 is handed over at its block. -/
theorem finds1_2 (V : Valuation τ sig (Elt F)) (c : Dev nD) (t : Fin cfg1.N) (Y) (h : (rd1 V c).Finds 2 t Y) : Y = blk1 V c 2 t := by
  obtain ⟨d, rfl⟩ := (rd1 V c).finds_in_eq_fetched 2 rfl (fun _ _ _ => rfl) (fun _ _ _ h => h) t Y h
  rfl
/-- Input 3 of region 1 is handed over at its block. -/
theorem finds1_3 (V : Valuation τ sig (Elt F)) (c : Dev nD) (t : Fin cfg1.N) (Y) (h : (rd1 V c).Finds 3 t Y) : Y = blk1 V c 3 t := by
  obtain ⟨d, rfl⟩ := (rd1 V c).finds_in_eq_fetched 3 rfl (fun _ _ _ => rfl) (fun _ _ _ h => h) t Y h
  rfl
/-- Input 4 of region 1 is handed over at its block. -/
theorem finds1_4 (V : Valuation τ sig (Elt F)) (c : Dev nD) (t : Fin cfg1.N) (Y) (h : (rd1 V c).Finds 4 t Y) : Y = blk1 V c 4 t := by
  obtain ⟨d, rfl⟩ := (rd1 V c).finds_in_eq_fetched 4 rfl (fun _ _ _ => rfl) (fun _ _ _ h => h) t Y h
  rfl
/-- Input 5 of region 1 is handed over at its block. -/
theorem finds1_5 (V : Valuation τ sig (Elt F)) (c : Dev nD) (t : Fin cfg1.N) (Y) (h : (rd1 V c).Finds 5 t Y) : Y = blk1 V c 5 t := by
  obtain ⟨d, rfl⟩ := (rd1 V c).finds_in_eq_fetched 5 rfl (fun _ _ _ => rfl) (fun _ _ _ h => h) t Y h
  rfl
/-- Input 6 of region 1 is handed over at its block. -/
theorem finds1_6 (V : Valuation τ sig (Elt F)) (c : Dev nD) (t : Fin cfg1.N) (Y) (h : (rd1 V c).Finds 6 t Y) : Y = blk1 V c 6 t := by
  obtain ⟨d, rfl⟩ := (rd1 V c).finds_in_eq_fetched 6 rfl (fun _ _ _ => rfl) (fun _ _ _ h => h) t Y h
  rfl
/-- Input 7 of region 1 is handed over at its block. -/
theorem finds1_7 (V : Valuation τ sig (Elt F)) (c : Dev nD) (t : Fin cfg1.N) (Y) (h : (rd1 V c).Finds 7 t Y) : Y = blk1 V c 7 t := by
  obtain ⟨d, rfl⟩ := (rd1 V c).finds_in_eq_fetched 7 rfl (fun _ _ _ => rfl) (fun _ _ _ h => h) t Y h
  rfl
/-- Input 8 of region 1 is handed over at its block. -/
theorem finds1_8 (V : Valuation τ sig (Elt F)) (c : Dev nD) (t : Fin cfg1.N) (Y) (h : (rd1 V c).Finds 8 t Y) : Y = blk1 V c 8 t := by
  obtain ⟨d, rfl⟩ := (rd1 V c).finds_in_eq_fetched 8 rfl (fun _ _ _ => rfl) (fun _ _ _ h => h) t Y h
  rfl
/-- Input 9 of region 1 is handed over at its block. -/
theorem finds1_9 (V : Valuation τ sig (Elt F)) (c : Dev nD) (t : Fin cfg1.N) (Y) (h : (rd1 V c).Finds 9 t Y) : Y = blk1 V c 9 t := by
  obtain ⟨d, rfl⟩ := (rd1 V c).finds_in_eq_fetched 9 rfl (fun _ _ _ => rfl) (fun _ _ _ h => h) t Y h
  rfl
/-- Input 10 of region 1 is handed over at its block. -/
theorem finds1_10 (V : Valuation τ sig (Elt F)) (c : Dev nD) (t : Fin cfg1.N) (Y) (h : (rd1 V c).Finds 10 t Y) : Y = blk1 V c 10 t := by
  obtain ⟨d, rfl⟩ := (rd1 V c).finds_in_eq_fetched 10 rfl (fun _ _ _ => rfl) (fun _ _ _ h => h) t Y h
  rfl
/-- Input 11 of region 1 is handed over at its block. -/
theorem finds1_11 (V : Valuation τ sig (Elt F)) (c : Dev nD) (t : Fin cfg1.N) (Y) (h : (rd1 V c).Finds 11 t Y) : Y = blk1 V c 11 t := by
  obtain ⟨d, rfl⟩ := (rd1 V c).finds_in_eq_fetched 11 rfl (fun _ _ _ => rfl) (fun _ _ _ h => h) t Y h
  rfl
/-- Input 12 of region 1 is handed over at its block. -/
theorem finds1_12 (V : Valuation τ sig (Elt F)) (c : Dev nD) (t : Fin cfg1.N) (Y) (h : (rd1 V c).Finds 12 t Y) : Y = blk1 V c 12 t := by
  obtain ⟨d, rfl⟩ := (rd1 V c).finds_in_eq_fetched 12 rfl (fun _ _ _ => rfl) (fun _ _ _ h => h) t Y h
  rfl
/-- Input 13 of region 1 is handed over at its block. -/
theorem finds1_13 (V : Valuation τ sig (Elt F)) (c : Dev nD) (t : Fin cfg1.N) (Y) (h : (rd1 V c).Finds 13 t Y) : Y = blk1 V c 13 t := by
  obtain ⟨d, rfl⟩ := (rd1 V c).finds_in_eq_fetched 13 rfl (fun _ _ _ => rfl) (fun _ _ _ h => h) t Y h
  rfl
/-- Input 14 of region 1 is handed over at its block. -/
theorem finds1_14 (V : Valuation τ sig (Elt F)) (c : Dev nD) (t : Fin cfg1.N) (Y) (h : (rd1 V c).Finds 14 t Y) : Y = blk1 V c 14 t := by
  obtain ⟨d, rfl⟩ := (rd1 V c).finds_in_eq_fetched 14 rfl (fun _ _ _ => rfl) (fun _ _ _ h => h) t Y h
  rfl
/-- Input 15 of region 1 is handed over at its block. -/
theorem finds1_15 (V : Valuation τ sig (Elt F)) (c : Dev nD) (t : Fin cfg1.N) (Y) (h : (rd1 V c).Finds 15 t Y) : Y = blk1 V c 15 t := by
  obtain ⟨d, rfl⟩ := (rd1 V c).finds_in_eq_fetched 15 rfl (fun _ _ _ => rfl) (fun _ _ _ h => h) t Y h
  rfl

/-- The body's call at a point. -/
theorem call0 (t : Fin cfg0.N) :
    (defs₀ (F := F) : Defs nD τ sig (Elt F) Λ₀) .tc cfg0.body (cfg0.bodyArgs t (cfg0.slots t)) = bodyAt0 t := by
  unfold defs₀; rw [Defs.onTc_tc]

set_option maxHeartbeats 1000000 in
/-- The body of region 0 does what its relation says. -/
theorem obligation0 (V : Valuation τ sig (Elt F)) (c : Dev nD) : (rd0 V c).BodyObligation (defs₀ (F := F)) Variants.none () Set.univ := fun t Y hY => by
  rw [bigSep_W0, bigSep_W0, call0]
  show iprop((rd0 V c).Φ t.castSucc ∗ (rd0 V c).owesAt () t.castSucc ∗ _) ⊢ wp frame (wpE (defs₀ (F := F)) Variants.none c none) Set.univ (bodyAt0 t) (fun _ => iprop((rd0 V c).Φ t.castSucc ∗ (rd0 V c).owesAt () t.castSucc ∗ _))
  iintro ⟨HΦ, HO, H0, H1, H2, H3, H4, H5, H6⟩
  iapply (run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Y 0) (Y 1) (Y 2) (Y 3) (Y 4) (Y 5) (Y 6) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro
    exact congrArg₂ route0 (finds0_0 V c t (Y 0) (hY 0)) (finds0_1 V c t (Y 1) (hY 1))
  iexists _; isplitr; swap; · iexact H6
  ipureintro
  exact congr (congr (congrArg₂ shared0 (finds0_0 V c t (Y 0) (hY 0)) (finds0_2 V c t (Y 2) (hY 2))) (finds0_3 V c t (Y 3) (hY 3))) (finds0_4 V c t (Y 4) (hY 4))

/-- The body's call at a point. -/
theorem call1 (t : Fin cfg1.N) :
    (defs₀ (F := F) : Defs nD τ sig (Elt F) Λ₀) .tc cfg1.body (cfg1.bodyArgs t (cfg1.slots t)) = bodyAt1 t := by
  unfold defs₀; rw [Defs.onTc_tc]

set_option maxHeartbeats 1000000 in
/-- The body of region 1 does what its relation says. -/
theorem obligation1 (V : Valuation τ sig (Elt F)) (c : Dev nD) : (rd1 V c).BodyObligation (defs₀ (F := F)) Variants.none () Set.univ := fun t Y hY => by
  rw [bigSep_W1, bigSep_W1, call1]
  show iprop((rd1 V c).Φ t.castSucc ∗ (rd1 V c).owesAt () t.castSucc ∗ _) ⊢ wp frame (wpE (defs₀ (F := F)) Variants.none c none) Set.univ (bodyAt1 t) (fun _ => iprop((rd1 V c).Φ t.castSucc ∗ (rd1 V c).owesAt () t.castSucc ∗ _))
  iintro ⟨HΦ, HO, H0, H1, H2, H3, H4, H5, H6, H7, H8, H9, H10, H11, H12, H13, H14, H15, H16⟩
  iapply (run1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Y 0) (Y 1) (Y 2) (Y 3) (Y 4) (Y 5) (Y 6) (Y 7) (Y 8) (Y 9) (Y 10) (Y 11) (Y 12) (Y 13) (Y 14) (Y 15) (Y 16) Set.univ _)
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  isplitl [HΦ]; · iexact HΦ
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact rfl
  iexists _; isplitr; swap; · iexact H16
  ipureintro
  exact congrFun (congr (congr (congr (congr (congr (congr (congr (congr (congr (congr (congr (congr (congr (congr (congr (congrArg (step1 (grid1.coords t)) (finds1_0 V c t (Y 0) (hY 0))) (finds1_1 V c t (Y 1) (hY 1))) (finds1_2 V c t (Y 2) (hY 2))) (finds1_3 V c t (Y 3) (hY 3))) (finds1_4 V c t (Y 4) (hY 4))) (finds1_5 V c t (Y 5) (hY 5))) (finds1_6 V c t (Y 6) (hY 6))) (finds1_7 V c t (Y 7) (hY 7))) (finds1_8 V c t (Y 8) (hY 8))) (finds1_9 V c t (Y 9) (hY 9))) (finds1_10 V c t (Y 10) (hY 10))) (finds1_11 V c t (Y 11) (hY 11))) (finds1_12 V c t (Y 12) (hY 12))) (finds1_13 V c t (Y 13) (hY 13))) (finds1_14 V c t (Y 14) (hY 14))) (finds1_15 V c t (Y 15) (hY 15))) (Y 16)

end Cert.KernelIdeal.Gen

end
-- ==== Proof.KernelIdealRun.lean ====
module

public import proofs.«01_k».proof.Proof.KernelIdealRegions

/-!
The whole run: what the experts' region accumulates in its result buffer, what both regions leave in the unscoped
buffers, and the final contents of every unscoped buffer.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ (UR sig nD τ) ℕ

/-! ## One point's replacement of rows -/

section Step

variable (i : grid1.Coords) (x0 : Vec F S2048x1024 .bf16) (x1 : Vec F S2048x64 .f32) (x2 : Vec F S2048x1024 .bf16) (x3 : Vec F S1x1408x1024 .bf16) (x4 : Vec F S1x32x1024 .bf16) (x5 : Vec F S1x32x1408 .bf16) (x6 : Vec F S1x1x1408 .f32) (x7 : Vec F S1x1408x1024 .bf16) (x8 : Vec F S1x32x1024 .bf16) (x9 : Vec F S1x32x1408 .bf16) (x10 : Vec F S1x1x1408 .f32) (x11 : Vec F S1x1024x1408 .bf16) (x12 : Vec F S1x32x1408 .bf16) (x13 : Vec F S1x32x1024 .bf16) (x14 : Vec F S1x1x1024 .f32) (x15 : Vec F S1x4x1024 .f32)

/-- The rows of a point start at 1024 times its second coordinate. -/
theorem row_word : ∀ b : Fin 2, (Scalar.indexCast (Scalar.muli (BitVec.ofNat 32 b.val) 1024#32) : Index).toNat = 1024 * b.val := by
  decide +kernel

theorem off1_rows : k1_off1 i = ![1024 * (i 1).val, 0] := congrArg (fun n => ![n, 0]) (row_word (i 1))
theorem off2_rows : k1_off2 i = ![1024 * (i 1).val, 0] := congrArg (fun n => ![n, 0]) (row_word (i 1))
theorem off3_rows : k1_off3 i = ![1024 * (i 1).val, 0] := congrArg (fun n => ![n, 0]) (row_word (i 1))
theorem off4_rows : k1_off4 i = ![1024 * (i 1).val, 0] := congrArg (fun n => ![n, 0]) (row_word (i 1))

/-- The first expert's points are those of first coordinate zero. -/
theorem cond1_iff : k1_cond1 i = 1#1 ↔ (i 0).val = 0 := by
  have h : ∀ a : Fin 16, (Scalar.cmpi .ne (Scalar.extui (Scalar.cmpi .eq (BitVec.ofNat 32 a.val) 0#32) : BitVec 32) 0#32 = 1#1) ↔ a.val = 0 := by
    decide +kernel
  exact h (i 0)

/-- The rectangle of rows at an offset of 1024 times `b` holds the rows of quotient `b`. -/
theorem mem_rows {off : Fin 2 → ℕ} (inb) (b : ℕ) (h : off = ![1024 * b, 0]) (y : S2048x1024.Idx) :
    y ∈ (Rect.unit (s := S2048x1024) off S1024x1024.size inb).set ↔ (y 0).val / 1024 = b := by
  subst h
  rw [Rect.mem_set_unit]
  have h1 : (y 1).val < 1024 := (y 1).isLt
  constructor
  · intro h
    have h0 : 1024 * b ≤ (y 0).val ∧ (y 0).val < 1024 * b + 1024 := h 0
    omega
  · intro h a
    match a with
    | ⟨0, _⟩ => show 1024 * b ≤ (y 0).val ∧ (y 0).val < 1024 * b + 1024; omega
    | ⟨1, _⟩ => show 0 ≤ (y 1).val ∧ (y 1).val < 0 + 1024; omega

/-- The first expert's point leaves rows that do not depend on the old contents. -/
theorem step1_first (h : (i 0).val = 0) (Y Y' : Vec F S2048x1024 .f32) (y : S2048x1024.Idx) (hy : (y 0).val / 1024 = (i 1).val) :
    step1 i x0 x1 x2 x3 x4 x5 x6 x7 x8 x9 x10 x11 x12 x13 x14 x15 Y y = step1 i x0 x1 x2 x3 x4 x5 x6 x7 x8 x9 x10 x11 x12 x13 x14 x15 Y' y := by
  have hc := (cond1_iff i).mpr h
  unfold step1
  rw [dif_pos hc, dif_pos hc]
  obtain ⟨x, rfl⟩ := LoadRect.exists_idx_of_mem _ ((mem_rows (k1_off3_inb i hc) _ (off3_rows i) y).mpr hy)
  exact (Rect.overlay_emb (Rect.unit (s := S2048x1024) (k1_off3 i) S1024x1024.size (k1_off3_inb i hc)) Y _ x).trans
    (Rect.overlay_emb (Rect.unit (s := S2048x1024) (k1_off3 i) S1024x1024.size (k1_off3_inb i hc)) Y' _ x).symm

/-- A point keeps the rows that are not its own. -/
theorem step1_other (Y : Vec F S2048x1024 .f32) (y : S2048x1024.Idx) (hy : (y 0).val / 1024 ≠ (i 1).val) :
    step1 i x0 x1 x2 x3 x4 x5 x6 x7 x8 x9 x10 x11 x12 x13 x14 x15 Y y = Y y := by
  unfold step1
  split_ifs with h h'
  · exact Rect.overlay_of_not_mem _ _ _ (mt (mem_rows (k1_off3_inb i h) _ (off3_rows i) y).mp hy)
  · exact Rect.overlay_of_not_mem _ _ _ (mt (mem_rows (k1_off4_inb i h') _ (off4_rows i) y).mp hy)
  · rfl

end Step

/-- The coordinates of a point of the experts' grid: the expert and the half of the rows. -/
theorem coords1 : ∀ t : Fin grid1.N, (grid1.coords t 0).val = t.val / 2 ∧ (grid1.coords t 1).val = t.val % 2 := by
  decide +kernel

/-! ## What the result buffer holds -/

/-- The result buffer after the first `n` points of the experts' region, from any first contents. -/
def acc1 (V : Valuation τ sig (Elt F)) (c : Dev nD) : ℕ → Vec F S2048x1024 .f32
  | 0 => fun _ => (Elt.nonempty F .f32).some
  | n + 1 => if h : n < cfg1.N then upd1 V c ⟨n, h⟩ (acc1 V c n) else acc1 V c n

theorem acc1_succ (V : Valuation τ sig (Elt F)) (c : Dev nD) (t : Fin cfg1.N) : acc1 V c (t.val + 1) = upd1 V c t (acc1 V c t.val) := by
  rw [acc1, dif_pos t.isLt]

/-- After the first point its half of the rows, and after every later point all rows, are those of `acc1`. -/
theorem leaves1 (V : Valuation τ sig (Elt F)) (c : Dev nD) : ∀ (n : ℕ) (h : n < cfg1.N) (X : Vec F S2048x1024 .f32),
    (rd1 V c).Leaves 16 ⟨n, h⟩ X → ∀ y : S2048x1024.Idx, (n = 0 → (y 0).val / 1024 = 0) → X y = acc1 V c (n + 1) y := by
  intro n
  induction n with
  | zero =>
    rintro h X ⟨Y, -, hX⟩ y hy
    obtain rfl : X = upd1 V c ⟨0, h⟩ Y := hX
    rw [acc1_succ V c ⟨0, h⟩]
    exact step1_first _ _ _ _ _ _ _ _ _ _ _ _ _ _ _ _ _ ((coords1 ⟨0, h⟩).1.trans (Nat.div_eq_of_lt (show 0 < 2 by decide))) _ _ y (by rw [(coords1 ⟨0, h⟩).2]; exact hy rfl)
  | succ n ih =>
    rintro h X ⟨Y, hY, hX⟩ y -
    obtain rfl : X = upd1 V c ⟨n + 1, h⟩ Y := hX
    rw [acc1_succ V c ⟨n + 1, h⟩]
    have hn : n < cfg1.N := Nat.lt_of_succ_lt h
    have hL : (rd1 V c).Leaves 16 ⟨n, hn⟩ Y := by
      rcases ((rd1 V c).finds_of_pos (w := 16) (t := ⟨n + 1, h⟩) rfl (Nat.succ_ne_zero n) Y).mp hY with hf | hL
      · have h31 := (flush1_16 _).mp hf
        have h32 : n + 1 < 32 := h
        have h31' : n % 32 = 31 := h31
        omega
      · exact hL
    have hrow : (y 0).val / 1024 < 2 := by
      have : (y 0).val < 2048 := (y 0).isLt
      omega
    by_cases h1 : n = 0
    · subst h1
      by_cases hy : (y 0).val / 1024 = 0
      · have hne : (y 0).val / 1024 ≠ (grid1.coords ⟨0 + 1, h⟩ 1).val := by rw [(coords1 ⟨0 + 1, h⟩).2, hy]; show (0 : ℕ) ≠ 1; decide
        exact (step1_other _ _ _ _ _ _ _ _ _ _ _ _ _ _ _ _ _ Y y hne).trans
          ((ih hn Y hL y (fun _ => hy)).trans (step1_other _ _ _ _ _ _ _ _ _ _ _ _ _ _ _ _ _ _ y hne).symm)
      · exact step1_first _ _ _ _ _ _ _ _ _ _ _ _ _ _ _ _ _ ((coords1 ⟨0 + 1, h⟩).1.trans (Nat.div_eq_of_lt (show 0 + 1 < 2 by decide))) _ _ y (by rw [(coords1 ⟨0 + 1, h⟩).2]; show _ = 1; omega)
    · rw [show Y = acc1 V c (n + 1) from funext fun z => ih hn Y hL z (fun h0 => absurd h0 h1)]

/-! ## The arrays at the end of each region -/

/-- What region 0's body leaves at each point. -/
def after0 (V : Valuation τ sig (Elt F)) (c : Dev nD) : (w : Fin cfg0.W) → Fin cfg0.N → (cfg0.win w).block.Idx → Elt F (cfg0.win w).elt
  | ⟨5, _⟩ => fun t => route0 (blk0 V c 0 t) (blk0 V c 1 t)
  | ⟨6, _⟩ => fun t => shared0 (blk0 V c 0 t) (blk0 V c 2 t) (blk0 V c 3 t) (blk0 V c 4 t)
  | _ => fun _ _ => (Elt.nonempty F _).some

/-- What region 1's body leaves at each point. -/
def after1 (V : Valuation τ sig (Elt F)) (c : Dev nD) : (w : Fin cfg1.W) → Fin cfg1.N → (cfg1.win w).block.Idx → Elt F (cfg1.win w).elt
  | ⟨16, _⟩ => fun t => acc1 V c (t.val + 1)
  | _ => fun _ _ => (Elt.nonempty F _).some

/-- The arrays of region 0 at its end. -/
def final0 (V : Valuation τ sig (Elt F)) (c : Dev nD) (w : Fin cfg0.W) : Buf (Elt F) ((cfg0.win w).arr.view.loc (c.tc : Thread nD τ)) :=
  ((rd0 V c).withAfter (after0 V c)).arrAt w cfg0.N

/-- The arrays of region 1 at its end. -/
def final1 (V : Valuation τ sig (Elt F)) (c : Dev nD) (w : Fin cfg1.W) : Buf (Elt F) ((cfg1.win w).arr.view.loc (c.tc : Thread nD τ)) :=
  ((rd1 V c).withAfter (after1 V c)).arrAt w cfg1.N

theorem arr0_5 (V : Valuation τ sig (Elt F)) (c : Dev nD) (G) (h : (rd0 V c).ArrAt 5 cfg0.N G) : G = final0 V c 5 := by
  obtain ⟨X, hX, hG⟩ := RDat.ArrAt.exists_exact h
  exact hG (after0 V c) fun u hu hf => by obtain ⟨Y, -, h⟩ := hX u hu hf; exact h.symm

theorem arr0_6 (V : Valuation τ sig (Elt F)) (c : Dev nD) (G) (h : (rd0 V c).ArrAt 6 cfg0.N G) : G = final0 V c 6 := by
  obtain ⟨X, hX, hG⟩ := RDat.ArrAt.exists_exact h
  exact hG (after0 V c) fun u hu hf => by obtain ⟨Y, -, h⟩ := hX u hu hf; exact h.symm

theorem arr1_16 (V : Valuation τ sig (Elt F)) (c : Dev nD) (G) (h : (rd1 V c).ArrAt 16 cfg1.N G) : G = final1 V c 16 := by
  obtain ⟨X, hX, hG⟩ := RDat.ArrAt.exists_exact h
  refine hG (after1 V c) fun u hu hf => ?_
  have h31 := (flush1_16 u).mp hf
  exact (funext fun y => leaves1 V c u.val u.isLt (X u) (hX u hu hf) y fun h0 => by omega).symm

/-! ## The buffers between the items -/

variable (m : (ℓ : Loc nD τ sig) → Buf (Elt F) ℓ) (ρ : Dev nD → PrngReg)

/-- The unscoped buffers after region 0. -/
def mid (c : Dev nD) : Valuation τ sig (Elt F) :=
  Function.update (Function.update (V1 m c) main_call0_v24_0 (final0 (V1 m c) c 5)) main_call0_v24_1 (final0 (V1 m c) c 6)

/-- The unscoped buffers after region 1. -/
def last (c : Dev nD) : Valuation τ sig (Elt F) :=
  Function.update (mid m c) main_call0_v25 (final1 (mid m c) c 16)

/-- The unscoped buffers at the end. -/
def final (c : Dev nD) : Valuation τ sig (Elt F) := StableHlo.after hostOps2 (last m c)

theorem ref_ne {r r' : Ref sig .tc} (h : r ≠ r') : (Proc.devRef .tc r : DevRef τ sig) ≠ Proc.devRef .tc r' := StableHlo.devRef_ne_of_ne h

theorem mid_of (c : Dev nD) (b : DevRef τ sig) (h0 : b ≠ Proc.devRef .tc main_call0_v24_0) (h1 : b ≠ Proc.devRef .tc main_call0_v24_1) :
    mid m c b = V1 m c b := by
  unfold mid; rw [Function.update_of_ne h1, Function.update_of_ne h0]
theorem mid_0 (c : Dev nD) : mid m c (Proc.devRef .tc main_call0_v24_0) = final0 (V1 m c) c 5 := by
  unfold mid; rw [Function.update_of_ne (ref_ne (by decide)), Function.update_self]
theorem mid_1 (c : Dev nD) : mid m c (Proc.devRef .tc main_call0_v24_1) = final0 (V1 m c) c 6 := by
  unfold mid; rw [Function.update_self]
theorem last_of (c : Dev nD) (b : DevRef τ sig) (h : b ≠ Proc.devRef .tc main_call0_v25) : last m c b = mid m c b := by
  unfold last; rw [Function.update_of_ne h]
theorem last_0 (c : Dev nD) : last m c (Proc.devRef .tc main_call0_v25) = final1 (mid m c) c 16 := by
  unfold last; rw [Function.update_self]

/-- No item writes an argument, so it ends as launched. -/
theorem final_arg (c : Dev nD) (r : Ref sig .tc) (h2 : r ∉ hostOps2_W) (h0 : r ∉ hostOps0_W)
    (h : r ≠ main_call0_v24_0 ∧ r ≠ main_call0_v24_1 ∧ r ≠ main_call0_v25) : final m c r = m ((c : Thread nD τ).loc r) :=
  (StableHlo.after_of_writes_sub hostOps2 _ hostOps2_writes h2).trans <|
    (last_of m c _ (ref_ne h.2.2)).trans <| (mid_of m c _ (ref_ne h.1) (ref_ne h.2.1)).trans <|
      (StableHlo.after_of_writes_sub hostOps0 _ hostOps0_writes h0)

/-! ## The segments -/

/-- Both regions' data. -/
def rdats : (p : Fin 2) → (c : Dev nD) → RDat τ (Elt F) Unit ℕ (UR sig nD τ) ℕ (cfgs p) c
  | ⟨0, _⟩ => fun c => rd0 (V1 m c) c
  | ⟨1, _⟩ => fun c => rd1 (mid m c) c

/-- Nothing is owed on any semaphore. -/
abbrev noPairs : GSem nD τ sig → Finset Unit := fun _ => ∅
abbrev noLevel : GSem nD τ sig → Unit → ℕ := fun _ _ => 0

/-- A buffer outside a region's arrays is none of them. -/
theorem ne_of_rest {W : ℕ} {gr : ℕ} (win : Fin W → Pipeline.WinSpec sig gr) (w : Fin W) {b : DevRef τ sig}
    (hb : b ∈ Pipeline.ucRefs τ sig \ Pipeline.arrRefs win) : b ≠ Proc.devRef .tc (Pipeline.arrRef win w) := fun h =>
  (Finset.mem_sdiff.mp hb).2 (h ▸ Finset.mem_map.mpr ⟨_, Finset.mem_image.mpr ⟨w, Finset.mem_univ w, rfl⟩, rfl⟩)

theorem wins0 : ∀ w : Fin cfg0.W, w = 5 ∨ w = 6 ∨ ((cfg0.win w).isOut = false ∧ Pipeline.arrRef spec0 w ≠ main_call0_v24_0 ∧ Pipeline.arrRef spec0 w ≠ main_call0_v24_1) := by
  decide
theorem wins1 : ∀ w : Fin cfg1.W, w = 16 ∨ ((cfg1.win w).isOut = false ∧ Pipeline.arrRef spec1 w ≠ main_call0_v25) := by
  decide

set_option backward.isDefEq.respectTransparency.types false in
/-- Region 0 from the buffers after the host operations to `mid`. -/
def reg0 : RDat.RegionSeg (pcfgs (F := F)) adm (rdats m) () defs₀ Variants.none noPairs noLevel 0 :=
  Cert.RegionRun.region (pcfgs (F := F)) adm (rdats m) defs₀ 0 launch0.toP rfl (fun c => obligation0 (V1 m c) c)
    (fun _ _ => rfl) (fun _ => rfl) (fun c => RDat.share_full _ fun _ => rfl) (fun _ _ => rfl) (V1 m) (mid m) (fun _ _ => rfl)
    (fun c w G hG => by
      rcases wins0 w with rfl | rfl | ⟨hin, h0, h1⟩
      · exact (arr0_5 (V1 m c) c G hG).trans (mid_0 m c).symm
      · exact (arr0_6 (V1 m c) c G hG).trans (mid_1 m c).symm
      · exact ((congrFun ((rd0 (V1 m c) c).ArrAt_in w hin cfg0.N) G).mp hG).trans (mid_of m c _ (ref_ne h0) (ref_ne h1)).symm)
    (fun c b hb => (mid_of m c b (ne_of_rest spec0 5 hb) (ne_of_rest spec0 6 hb)).symm)

set_option backward.isDefEq.respectTransparency.types false in
/-- Region 1 from `mid` to `last`. -/
def reg1 : RDat.RegionSeg (pcfgs (F := F)) adm (rdats m) () defs₀ Variants.none noPairs noLevel 1 :=
  Cert.RegionRun.region (pcfgs (F := F)) adm (rdats m) defs₀ 1 launch1.toP rfl (fun c => obligation1 (mid m c) c)
    (fun _ _ => rfl) (fun _ => rfl) (fun c => RDat.share_full _ fun _ => rfl) (fun _ _ => rfl) (mid m) (last m) (fun _ _ => rfl)
    (fun c w G hG => by
      rcases wins1 w with rfl | ⟨hin, h0⟩
      · exact (arr1_16 (mid m c) c G hG).trans (last_0 m c).symm
      · exact ((congrFun ((rd1 (mid m c) c).ArrAt_in w hin cfg1.N) G).mp hG).trans (last_of m c _ (ref_ne h0)).symm)
    (fun c b hb => (last_of m c b (ne_of_rest spec1 16 hb)).symm)

/-- The host operations after the regions, from the buffers at `last`. -/
def tail : HostSeg (Ix := Unit) (Name := ℕ) (U := UR sig nD τ) (Lvl := ℕ) (pcfgs (F := F)) defs₀ Variants.none noPairs noLevel :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (last m) Cert.RegionRun.beside

/-- @main in order. -/
abbrev items : List (RDat.Seg (pcfgs (F := F)) adm (rdats m) () defs₀ Variants.none noPairs noLevel) :=
  [.host (seg0 m Variants.none noPairs noLevel fun _ => Cert.RegionRun.beside), .region (reg0 m), .region (reg1 m), .host (tail m)]

set_option backward.isDefEq.respectTransparency.types false in
/-- Every execution of @main from memory `m` ends with every unscoped buffer of the TensorCore at `final m`, and every
semaphore counter at zero. -/
theorem run_all : θ_run defs (onTc (τ := τ) (main (F := F))) ⟨m, fun _ => 0, ρ⟩ (fun r =>
    (∀ (c : Dev nD) (b : Ref sig .tc), b.isScoped = false → r.2.mem ((c.tc : Thread nD τ).loc b) = final m c b) ∧ r.2.sem = fun _ => 0) := by
  refine RDat.θ_run_regions_kit_dev_sems (pcfgs (F := F)) adm (rdats m) () cellOf_inj emb₁ defs₀ Variants.none noPairs noLevel m ρ main
    (fun _ => items m)
    (fun c Q => by
      rewrite [main_chain c, RDat.Seg.run_eq_chain,
        show (items m).map RDat.Seg.prog = [StableHlo.seq hostOps0, Prog.lift (.customCall (Pipeline.entry 0) ()),
          Prog.lift (.customCall (Pipeline.entry 1) ()), StableHlo.seq hostOps2] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (V0 m c) ∗ Cert.RegionRun.beside c))
    (Tₙ := fun c => StableHlo.held (c : Thread nD τ) (Pipeline.ucRefs τ sig) (final m c))
    (hch := fun c => ⟨.rfl, .rfl, .rfl, .rfl, sep_mono .rfl ?_⟩)
    (hinit := ?_)
    (QY := fun c s => ∀ b : Ref sig .tc, b.isScoped = false → s.mem ((c.tc : Thread nD τ).loc b) = final m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · unfold Cert.RegionRun.beside
    iintro ⟨-, H⟩; iexact H
  · refine Pipeline.initEach noPairs noLevel fun c => ?_
    rw [show unscopedBufs c (fun b => m ((c : Thread nD τ).loc b)) = StableHlo.held (c : Thread nD τ) (Pipeline.ucRefs τ sig) (V0 m c) from
      Pipeline.unscopedBufs_held c (V0 m c)]
    unfold Cert.RegionRun.beside
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (final m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.KernelIdeal.Gen

end
-- ==== Proof.Frames.lean ====
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent
public import Idealize.ShloMosaic.Lib.StableHlo.RunHlo

/-!
The three programs run to the end without fault, leave their arguments unchanged and every semaphore counter at zero.
-/

@[expose] public section

set_option maxRecDepth 8192

noncomputable section

namespace Cert.Proof

open Idealize.ShloMosaic Idealize.SL.Sem Idealize.ShloMosaic.StableHlo

/-- The kernel's program. -/
theorem frame_p : Cert.quiescent_Kernel := fun m g _ =>
  θ_run_mono (Cert.Kernel.Gen.run_all (F := Bits) m g) fun _ h => ⟨fun c => by
    refine ⟨?_, ?_, ?_, ?_, ?_, ?_, ?_, ?_, ?_, ?_, ?_, ?_, ?_, ?_, ?_, ?_, ?_, ?_, ?_⟩ <;>
      exact (h.1 c _ rfl).trans (Cert.Kernel.Gen.final_arg m c _ (by decide) (by decide) (by decide)), h.2⟩

/-- The kernel's program over the extended reals. -/
theorem frame_pi : Cert.quiescent_KernelIdeal := fun m g _ =>
  θ_run_mono (Cert.KernelIdeal.Gen.run_all (F := Ideal) m g) fun _ h => ⟨fun c => by
    refine ⟨?_, ?_, ?_, ?_, ?_, ?_, ?_, ?_, ?_, ?_, ?_, ?_, ?_, ?_, ?_, ?_, ?_, ?_, ?_⟩ <;>
      exact (h.1 c _ rfl).trans (Cert.KernelIdeal.Gen.final_arg m c _ (by decide) (by decide) (by decide)), h.2⟩

/-- The reference's program over the extended reals: it has no semaphore. -/
theorem frame_ri : Cert.quiescent_ReferenceIdeal := fun m g _ =>
  θ_run_mono (Cert.ReferenceIdeal.Value.run (F := Ideal) m g) fun r h => ⟨fun c => (h c).2, sem_eq_zero_of_no_sems rfl r.2⟩

end Cert.Proof

end
-- ==== Proof.Rank.lean ====
/- The places of a row's entries. -/
module

public import Idealize.ShloMosaic.Lib.SortPrefix
public import Idealize.ShloMosaic.Lib.SortFacts
public import Idealize.ShloMosaic.PureOps
public import Idealize.ShloMosaic.PureOps.Reduce
public import Mathlib.Data.EReal.Basic
public import Mathlib.Data.Fintype.Card
public import Mathlib.Order.Preorder.Finite

/-!
A row of entries put in order: the greater entry first, and of two equal entries the one of the smaller index. `rank`
counts the entries ahead of an entry. The repeated maximum of the kernel and the stable sort of the reference both go
through the entries in this order.
-/

@[expose] public section

noncomputable section

open scoped BigOperators

namespace Cert.Rank

open Idealize.ShloMosaic

variable {n : ℕ} (s : Fin n → EReal)

/-- Entry `a` is ahead of entry `b`. -/
def Ahead (a b : Fin n) : Prop := s b < s a ∨ (s a = s b ∧ a < b)

instance (a b : Fin n) : Decidable (Ahead s a b) := Classical.dec _

/-- How many entries are ahead of entry `b`. -/
def rank (b : Fin n) : ℕ := (Finset.univ.filter fun a => Ahead s a b).card

theorem ahead_irrefl (a : Fin n) : ¬ Ahead s a a := by
  rintro (h | ⟨_, h⟩)
  · exact lt_irrefl _ h
  · exact lt_irrefl _ h

theorem ahead_trans {a b c : Fin n} (hab : Ahead s a b) (hbc : Ahead s b c) : Ahead s a c := by
  rcases hab with hab | ⟨eab, lab⟩ <;> rcases hbc with hbc | ⟨ebc, lbc⟩
  · exact .inl (hbc.trans hab)
  · exact .inl (ebc ▸ hab)
  · exact .inl (eab ▸ hbc)
  · exact .inr ⟨eab.trans ebc, lab.trans lbc⟩

theorem ahead_total {a b : Fin n} (h : a ≠ b) : Ahead s a b ∨ Ahead s b a := by
  rcases lt_trichotomy (s a) (s b) with hs | hs | hs
  · exact .inr (.inl hs)
  · rcases lt_or_gt_of_ne h with hi | hi
    · exact .inl (.inr ⟨hs, hi⟩)
    · exact .inr (.inr ⟨hs.symm, hi⟩)
  · exact .inl (.inl hs)

/-- An entry ahead has the smaller rank. -/
theorem rank_lt_of_ahead {a b : Fin n} (h : Ahead s a b) : rank s a < rank s b := by
  refine Finset.card_lt_card ⟨fun x hx => ?_, fun hsub => ?_⟩
  · simp only [Finset.mem_filter, Finset.mem_univ, true_and] at hx ⊢
    exact ahead_trans s hx h
  · have : a ∈ Finset.univ.filter fun x => Ahead s x a := hsub (by simpa using h)
    exact ahead_irrefl s a (by simpa using this)

theorem rank_injective : Function.Injective (rank s) := fun a b h => by
  by_contra hne
  rcases ahead_total s hne with h' | h'
  · exact absurd h (rank_lt_of_ahead s h').ne
  · exact absurd h (rank_lt_of_ahead s h').ne'

theorem ahead_of_rank_lt {a b : Fin n} (h : rank s a < rank s b) : Ahead s a b := by
  have hne : a ≠ b := fun e => absurd (congrArg (rank s) e) h.ne
  rcases ahead_total s hne with h' | h'
  · exact h'
  · exact absurd (rank_lt_of_ahead s h') (not_lt.mpr h.le)

theorem rank_lt (a : Fin n) : rank s a < n := by
  have h : (Finset.univ.filter fun x => Ahead s x a) ⊂ Finset.univ :=
    ⟨Finset.subset_univ _, fun hsub => ahead_irrefl s a (by simpa using hsub (Finset.mem_univ a))⟩
  simpa [rank] using Finset.card_lt_card h

/-- The entry of rank `r`. -/
theorem exists_rank (r : Fin n) : ∃ a, rank s a = r.val := by
  have hinj : Function.Injective fun a : Fin n => (⟨rank s a, rank_lt s a⟩ : Fin n) := fun a b h =>
    rank_injective s (congrArg Fin.val h)
  obtain ⟨a, ha⟩ := (Finite.injective_iff_surjective.mp hinj) r
  exact ⟨a, congrArg Fin.val ha⟩

/-- The entry of rank `r`, chosen. -/
def place (r : Fin n) : Fin n := (exists_rank s r).choose

theorem rank_place (r : Fin n) : rank s (place s r) = r.val := (exists_rank s r).choose_spec

theorem place_eq_iff (r a : Fin n) : place s r = a ↔ rank s a = r.val :=
  ⟨fun h => h ▸ rank_place s r, fun h => rank_injective s ((rank_place s r).trans h.symm)⟩

/-! ## The stable sort visits the entries in order -/

/-- The order as the sort's two-valued test. -/
def aheadB (a b : Fin n) : Bool := decide (Ahead s a b)

theorem aheadB_strict : StrictTotalBefore (aheadB s) where
  irrefl a := decide_eq_false (ahead_irrefl s a)
  trans a b c hab hbc := decide_eq_true (ahead_trans s (of_decide_eq_true hab) (of_decide_eq_true hbc))
  total a b h := (ahead_total s h).imp decide_eq_true decide_eq_true

/-- Inserting depends on the test only against the inserted element. -/
theorem insert_congr {ι : Type} (R B : ι → ι → Bool) (a : ι) (l : List ι) (h : ∀ b ∈ l, R b a = B b a) :
    insertBefore R a l = insertBefore B a l := by
  induction l with
  | nil => rfl
  | cons b l ih =>
    unfold insertBefore
    rw [h b List.mem_cons_self, ih fun b' hb' => h b' (List.mem_cons_of_mem _ hb')]

/-- On a list of ascending positions the stable sort by the entries alone is the sort by entry and then position. -/
theorem sort_congr (R : Fin n → Fin n → Bool) (hR : ∀ a b, R a b = decide (s b < s a)) (l : List (Fin n))
    (hl : l.Pairwise (· < ·)) : stableSort R l = stableSort (aheadB s) l := by
  induction l with
  | nil => rfl
  | cons a l ih =>
    rw [List.pairwise_cons] at hl
    unfold stableSort
    rw [ih hl.2]
    refine insert_congr _ _ _ _ fun b hb => ?_
    have hab : a < b := hl.1 b ((perm_stableSort _ l).mem_iff.mp hb)
    rw [hR, aheadB]
    refine decide_eq_decide.mpr ⟨.inl, ?_⟩
    rintro (h | ⟨_, h⟩)
    · exact h
    · exact absurd h hab.asymm

/-- The stable sort by "greater" puts the entry of rank `k` at place `k`. -/
theorem sortedFrom_eq_place (R : Fin n → Fin n → Bool) (hR : ∀ a b, R a b = decide (s b < s a)) (k : Fin n) :
    sortedFrom R k = place s k := by
  have h := (aheadB_strict s).sortedFrom_eq_of_prefix le_rfl (place s)
    (fun i j h => Fin.ext (by rw [← rank_place s i, ← rank_place s j, h]))
    (fun i j hij => decide_eq_false fun hb => by
      have := rank_lt_of_ahead s hb
      rw [rank_place, rank_place] at this
      exact absurd hij (not_lt.mpr (le_of_lt this)))
    (fun i p hp => absurd ((place_eq_iff s ⟨rank s p, rank_lt s p⟩ p).mpr rfl) (hp _)) k
  rw [← h]
  have e : sortPositions n R = sortPositions n (aheadB s) := sort_congr s R hR _ (List.pairwise_lt_finRange n)
  unfold sortedFrom
  rw [List.get_of_eq e]
  rfl

/-! ## The repeated maximum visits the entries in order -/

/-- What is left of the row after `r` rounds: the first `r` entries are overwritten by `lo`. -/
def left (lo : EReal) (r : ℕ) (a : Fin n) : EReal := if rank s a < r then lo else s a

/-- The greatest of what is left is the entry of rank `r`, and that entry is the first to reach it. -/
theorem left_peak (lo bot : EReal) (hlo : ∀ a, lo < s a) (hbot : ∀ a, bot ≤ s a) (r : Fin n) :
    Finset.fold max bot (left s lo r.val) Finset.univ = s (place s r) := by
  have hp := rank_place s r
  apply le_antisymm
  · rw [Finset.fold_max_le]
    refine ⟨hbot _, fun a _ => ?_⟩
    unfold left
    split_ifs with h
    · exact (hlo _).le
    · rcases Nat.lt_or_ge r.val (rank s a) with h' | h'
      · rcases ahead_of_rank_lt s (hp.trans_lt h') with h'' | ⟨h'', _⟩
        · exact h''.le
        · exact h''.ge
      · exact (congrArg s ((place_eq_iff s r a).mpr (le_antisymm h' (not_lt.mp h)))).ge
  · rw [Finset.le_fold_max]
    exact .inr ⟨place s r, Finset.mem_univ _, by simp [left, hp]⟩

theorem left_place (lo : EReal) (r : Fin n) : left s lo r.val (place s r) = s (place s r) := by
  simp [left, rank_place]

/-- Any index that reaches the peak is at or after the entry of rank `r`. -/
theorem place_le_of_peak (lo : EReal) (hlo : ∀ a, lo < s a) (r a : Fin n)
    (h : left s lo r.val a = s (place s r)) : place s r ≤ a := by
  have hp := rank_place s r
  unfold left at h
  split_ifs at h with hr
  · exact absurd h (hlo _).ne
  · rcases Nat.lt_or_ge r.val (rank s a) with h' | h'
    · rcases ahead_of_rank_lt s (hp.trans_lt h') with h'' | ⟨_, h''⟩
      · exact absurd h h''.ne
      · exact h''.le
    · exact ((place_eq_iff s r a).mpr (le_antisymm h' (not_lt.mp hr))).le

theorem left_succ (lo : EReal) (r : Fin n) (a : Fin n) :
    left s lo (r.val + 1) a = if a = place s r then lo else left s lo r.val a := by
  by_cases h : a = place s r
  · subst h; simp [left, rank_place]
  · have h' : rank s a ≠ r.val := fun e => h ((place_eq_iff s r a).mpr e).symm
    have : rank s a < r.val + 1 ↔ rank s a < r.val := by omega
    simp only [left, if_neg h, this]

/-- The entries of the first `r` ranks, and zero elsewhere. -/
def first (r : ℕ) (a : Fin n) : EReal := if rank s a < r then s a else 0

theorem first_succ (r : Fin n) (a : Fin n) :
    first s (r.val + 1) a = if a = place s r then s a else first s r.val a := by
  by_cases h : a = place s r
  · subst h; simp [first, rank_place]
  · have h' : rank s a ≠ r.val := fun e => h ((place_eq_iff s r a).mpr e).symm
    have : rank s a < r.val + 1 ↔ rank s a < r.val := by omega
    simp only [first, if_neg h, this]

/-- The sum of the first `k` entries against the indicator of one index. -/
theorem sum_place {k : ℕ} (hk : k ≤ n) (a : Fin n) :
    ∑ j : Fin k, s (place s (j.castLE hk)) * (if place s (j.castLE hk) = a then 1 else 0) = first s k a := by
  unfold first
  split_ifs with h
  · rw [Finset.sum_eq_single (⟨rank s a, h⟩ : Fin k)]
    · have : place s ((⟨rank s a, h⟩ : Fin k).castLE hk) = a := (place_eq_iff s _ a).mpr rfl
      rw [this, if_pos rfl, mul_one]
    · intro j _ hj
      rw [if_neg, mul_zero]
      exact fun e => hj (Fin.ext ((place_eq_iff s _ a).mp e).symm)
    · exact fun h' => absurd (Finset.mem_univ _) h'
  · refine Finset.sum_eq_zero fun j _ => ?_
    rw [if_neg, mul_zero]
    intro e
    exact h (((place_eq_iff s _ a).mp e).trans_lt j.isLt)

/-- The least of the indices with a property, as the signed minimum over the index words, the other lanes at `top`. -/
theorem fold_first (P : Fin 64 → Prop) [DecidablePred P] (j : Fin 64) (hj : P j) (hmin : ∀ x, P x → j ≤ x) :
    Finset.fold IntOp.minsi 2147483647#32 (fun x : Fin 64 => if P x then BitVec.ofNat 32 x.val else 64#32) Finset.univ
      = BitVec.ofNat 32 j.val := by
  have hw : ∀ x : Fin 64, (BitVec.ofNat 32 x.val).toInt = (x.val : ℤ) := by decide
  have hhom := Finset.fold_hom (op := IntOp.minsi (w := 32)) (op' := min) (m := BitVec.toInt) (b := 2147483647#32)
    (f := fun x : Fin 64 => if P x then BitVec.ofNat 32 x.val else 64#32) (s := Finset.univ) (fun x y => by
      unfold IntOp.minsi
      split_ifs with h
      · exact (min_eq_left (BitVec.slt_iff_toInt_lt.mp h).le).symm
      · exact (min_eq_right (not_lt.mp fun h' => h (BitVec.slt_iff_toInt_lt.mpr h'))).symm)
  have htop : (2147483647#32 : BitVec 32).toInt = 2147483647 := by decide
  have h64 : (64#32 : BitVec 32).toInt = 64 := by decide
  refine BitVec.eq_of_toInt_eq (hhom.symm.trans ?_)
  rw [hw, htop]
  apply le_antisymm
  · rw [Finset.fold_min_le]
    exact .inr ⟨j, Finset.mem_univ _, by rw [if_pos hj, hw]⟩
  · rw [Finset.le_fold_min]
    refine ⟨?_, fun x _ => ?_⟩
    · have := j.isLt; omega
    · split_ifs with h
      · rw [hw]; exact_mod_cast hmin x h
      · rw [h64]; have := j.isLt; omega

end Cert.Rank
-- ==== Proof.Moe.lean ====
/- What the layer computes, as functions on extended reals. -/
module

public import proofs.«01_k».proof.Proof.Rank
public import Idealize.ShloMosaic.PureOps.Ideal
public import Idealize.ShloMosaic.Lib.IdealHost

/-!
The layer's value, entry by entry: the gate scores of a token, the eight greatest of them, the mixing weights of an
expert's four members, the projections with their low-rank corrections, and the sum over the experts and the shared
rows. The kernel's value and the reference's are both brought to `out`.
-/

@[expose] public section

noncomputable section

open scoped BigOperators

namespace Cert.Moe

open Idealize.ShloMosaic

/-- The start of a maximum. -/
abbrev bottom : EReal := Ideal.ofBits .f32 0xFF800000#32
/-- The mask the kernel writes over an entry already chosen. -/
abbrev mask : EReal := Ideal.ofBits .f32 0xBF800000#32
/-- The logit of a member that has no weight. -/
abbrev absent : EReal := Ideal.ofBits .f32 0xCE6E6B28#32

theorem bottom_eq : bottom = ⊥ := by
  simp [Ideal.ofBits, Ideal.ieee]

theorem mask_neg : mask < 0 := by
  have h : mask = ((-1 : ℝ) : EReal) := by
    simp [Ideal.ofBits, Ideal.ieee, -EReal.coe_mul, -EReal.coe_neg]
    norm_num
  rw [h]
  exact_mod_cast (by norm_num : (-1 : ℝ) < 0)

theorem absent_real : ∃ r : ℝ, absent = (r : EReal) := by
  refine ⟨-(15625000 * 2 ^ 6), ?_⟩
  simp [Ideal.ofBits, Ideal.ieee, -EReal.coe_mul, -EReal.coe_neg]

/-! ## Softmax -/

section Softmax
variable {n : ℕ}

def peak (f : Fin n → EReal) : EReal := max bottom (Finset.univ.fold max bottom f)

/-- The softmax of a row, shifted by its maximum. -/
def softmax (f : Fin n → EReal) (j : Fin n) : EReal :=
  Ideal.div (Ideal.exp (f j - peak f)) (∑ x, Ideal.exp (f x - peak f))

theorem peak_real [NeZero n] (f : Fin n → EReal) (hf : ∀ j, ∃ r : ℝ, f j = r) : ∃ r : ℝ, peak f = r := by
  choose g hg using hf
  have hf : f = fun j => (g j : EReal) := funext hg
  have hlt : peak f ≠ ⊤ := by
    have : peak f < ⊤ := by
      unfold peak
      rw [bottom_eq, bot_sup_eq, Finset.fold_max_lt]
      exact ⟨bot_lt_top, fun x _ => by rw [hg]; exact EReal.coe_lt_top _⟩
    exact this.ne
  have hgt : peak f ≠ ⊥ := by
    have : ⊥ < peak f := by
      unfold peak
      rw [bottom_eq, bot_sup_eq, Finset.lt_fold_max]
      exact .inr ⟨0, Finset.mem_univ _, by rw [hg]; exact EReal.bot_lt_coe _⟩
    exact this.ne'
  exact ⟨(peak f).toReal, (EReal.coe_toReal hlt hgt).symm⟩

/-- The softmax of finite logits is a finite number, and it is not negative. -/
theorem softmax_real [NeZero n] (f : Fin n → EReal) (hf : ∀ j, ∃ r : ℝ, f j = r) (j : Fin n) :
    ∃ r : ℝ, softmax f j = r ∧ 0 ≤ r := by
  obtain ⟨p, hp⟩ := peak_real f hf
  choose g hg using hf
  have he : ∀ x, Ideal.exp (f x - peak f) = ((Real.exp (g x - p) : ℝ) : EReal) := fun x => by
    rw [hg, hp, ← EReal.coe_sub]; rfl
  have hs : ∑ x, Ideal.exp (f x - peak f) = ((∑ x, Real.exp (g x - p) : ℝ) : EReal) := by
    simp only [he]
    exact (map_sum (⟨⟨Real.toEReal, rfl⟩, fun _ _ => EReal.coe_add _ _⟩ : ℝ →+ EReal) _ _).symm
  have hpos : 0 < ∑ x, Real.exp (g x - p) := Finset.sum_pos (fun x _ => Real.exp_pos _) ⟨0, Finset.mem_univ _⟩
  refine ⟨Real.exp (g j - p) * (∑ x, Real.exp (g x - p))⁻¹, ?_, by positivity⟩
  unfold softmax Ideal.div
  rw [hs, if_neg (by exact_mod_cast hpos.ne'), he, ← EReal.coe_inv, ← EReal.coe_mul]

end Softmax

/-! ## Routing -/

/-- The gate's score where it is one of a token's eight greatest, and zero elsewhere. -/
def pick (s : Fin 64 → EReal) : Fin 64 → EReal := Rank.first s 8

/-- The mixing weights of an expert's four members, of their gate weights. -/
def gate (w : Fin 4 → EReal) : Fin 4 → EReal := softmax fun k => if w k = 0 then absent else w k

theorem gate_real (w : Fin 4 → EReal) (hw : ∀ k, ∃ r : ℝ, w k = r) (k : Fin 4) : ∃ r : ℝ, gate w k = r ∧ 0 ≤ r :=
  softmax_real _ (fun k => by
    split_ifs
    · exact absent_real
    · exact hw k) k

/-! ## Projections -/

def silu (x : EReal) : EReal := x * Ideal.logistic x

/-- The low-rank correction, one term for each of the four members. -/
def low {a b : ℕ} (qa : Fin 4 → Fin 8 → Fin a → EReal) (qb : Fin 4 → Fin b → Fin 8 → EReal) (g : Fin 4 → EReal)
    (x : Fin a → EReal) (o : Fin b) : EReal :=
  ∑ k, (∑ r, (∑ h, x h * qa k r h) * qb k o r) * g k

/-- A dense projection with its scaled low-rank correction. -/
def fused {a b : ℕ} (W : Fin b → Fin a → EReal) (qa : Fin 4 → Fin 8 → Fin a → EReal) (qb : Fin 4 → Fin b → Fin 8 → EReal)
    (sc : Fin b → EReal) (g : Fin 4 → EReal) (x : Fin a → EReal) (o : Fin b) : EReal :=
  ∑ h, x h * W o h + sc o * low qa qb g x o

/-- The member that lane `l` of the 32 belongs to, and its place there. -/
def member (l : Fin 32) : Fin 4 := ⟨l.val / 8, by omega⟩
def within (l : Fin 32) : Fin 8 := ⟨l.val % 8, by omega⟩

/-- The same correction over the 32 lanes at once, the weight applied before the second factor: finite weights that are
not negative distribute over the sums. -/
theorem low_eq_lanes {a b : ℕ} (qa : Fin 4 → Fin 8 → Fin a → EReal) (qb : Fin 4 → Fin b → Fin 8 → EReal) (g : Fin 4 → EReal)
    (hg : ∀ k, ∃ r : ℝ, g k = r ∧ 0 ≤ r) (x : Fin a → EReal) (o : Fin b) :
    ∑ l : Fin 32, (∑ h, x h * qa (member l) (within l) h) * g (member l) * qb (member l) o (within l) = low qa qb g x o := by
  have hd : ∀ (k : Fin 4) (f : Fin 8 → EReal), (∑ r, f r) * g k = ∑ r, f r * g k := fun k f => by
    obtain ⟨r, hr, h0⟩ := hg k
    have hn : (0 : EReal) ≤ g k := by rw [hr]; exact_mod_cast h0
    have ht : g k ≠ ⊤ := by rw [hr]; exact EReal.coe_ne_top r
    exact map_sum (⟨⟨fun y => y * g k, zero_mul _⟩, fun y z => EReal.right_distrib_of_nonneg_of_ne_top hn ht y z⟩ : EReal →+ EReal) f _
  unfold low
  simp only [hd]
  rw [← Fintype.sum_prod_type']
  refine (Fintype.sum_equiv (finProdFinEquiv (m := 4) (n := 8)) _ _ fun p => ?_).symm
  have h1 : member (finProdFinEquiv p) = p.1 := Fin.ext (by
    have := p.2.isLt
    show (p.2.val + 8 * p.1.val) / 8 = p.1.val
    omega)
  have h2 : within (finProdFinEquiv p) = p.2 := Fin.ext (by
    have := p.2.isLt
    show (p.2.val + 8 * p.1.val) % 8 = p.2.val
    omega)
  rw [h1, h2]
  exact mul_right_comm _ _ _

/-! ## The layer -/

/-- The layer's arguments, entry by entry. -/
structure Args where
  x : Fin 2048 → Fin 1024 → EReal
  wg : Fin 64 → Fin 1024 → EReal
  mup : Fin 16 → Fin 1024 → Fin 4 → EReal
  gW : Fin 16 → Fin 1408 → Fin 1024 → EReal
  gqa : Fin 16 → Fin 4 → Fin 8 → Fin 1024 → EReal
  gqb : Fin 16 → Fin 4 → Fin 1408 → Fin 8 → EReal
  gsc : Fin 16 → Fin 1408 → EReal
  uW : Fin 16 → Fin 1408 → Fin 1024 → EReal
  uqa : Fin 16 → Fin 4 → Fin 8 → Fin 1024 → EReal
  uqb : Fin 16 → Fin 4 → Fin 1408 → Fin 8 → EReal
  usc : Fin 16 → Fin 1408 → EReal
  dW : Fin 16 → Fin 1024 → Fin 1408 → EReal
  dqa : Fin 16 → Fin 4 → Fin 8 → Fin 1408 → EReal
  dqb : Fin 16 → Fin 4 → Fin 1024 → Fin 8 → EReal
  dsc : Fin 16 → Fin 1024 → EReal
  sgW : Fin 2816 → Fin 1024 → EReal
  suW : Fin 2816 → Fin 1024 → EReal
  sdW : Fin 1024 → Fin 2816 → EReal

section Layer
variable (p : Args)

/-- The gate's logits of token `t`. -/
def logit (t : Fin 2048) (e : Fin 64) : EReal := ∑ h, p.x t h * p.wg e h
/-- The gate's scores of token `t`. -/
def score (t : Fin 2048) : Fin 64 → EReal := softmax (logit p t)
/-- The routed member behind member `k` of fused expert `e`. -/
def routed (e : Fin 16) (k : Fin 4) : Fin 64 := ⟨e.val * 4 + k.val, by omega⟩
/-- The gate weights of expert `e`'s members. -/
def raw (e : Fin 16) (t : Fin 2048) (k : Fin 4) : EReal := pick (score p t) (routed e k)
/-- Their mixing weights. -/
def wt (e : Fin 16) (t : Fin 2048) : Fin 4 → EReal := gate (raw p e t)
/-- The activations expert `e` works on. -/
def act (e : Fin 16) (t : Fin 2048) (h : Fin 1024) : EReal := p.x t h + ∑ k, wt p e t k * p.mup e h k
/-- The expert's hidden row. -/
def hid (e : Fin 16) (t : Fin 2048) (i : Fin 1408) : EReal :=
  silu (fused (p.gW e) (p.gqa e) (p.gqb e) (p.gsc e) (wt p e t) (act p e t) i)
    * fused (p.uW e) (p.uqa e) (p.uqb e) (p.usc e) (wt p e t) (act p e t) i
/-- The expert's output row. -/
def expert (e : Fin 16) (t : Fin 2048) (o : Fin 1024) : EReal :=
  fused (p.dW e) (p.dqa e) (p.dqb e) (p.dsc e) (wt p e t) (hid p e t) o
/-- What expert `e` adds to a token. -/
def term (e : Fin 16) (t : Fin 2048) (o : Fin 1024) : EReal := (∑ k, raw p e t k) * expert p e t o
/-- The shared experts' row. -/
def shared (t : Fin 2048) (o : Fin 1024) : EReal :=
  ∑ i, silu (∑ h, p.x t h * p.sgW i h) * (∑ h, p.x t h * p.suW i h) * p.sdW o i
/-- The layer's output. -/
def out (t : Fin 2048) (o : Fin 1024) : EReal := ∑ e, term p e t o + shared p t o

/-- The gate's inputs are finite numbers. -/
structure Args.Finite : Prop where
  x : ∀ t h, ∃ r : ℝ, p.x t h = r
  wg : ∀ e h, ∃ r : ℝ, p.wg e h = r

variable {p} (hp : p.Finite)
include hp

theorem logit_real (t : Fin 2048) (e : Fin 64) : ∃ r : ℝ, logit p t e = r := by
  choose f hf using hp.x t
  choose g hg using hp.wg e
  refine ⟨∑ h, f h * g h, ?_⟩
  unfold logit
  simp only [hf, hg, ← EReal.coe_mul]
  exact (map_sum (⟨⟨Real.toEReal, rfl⟩, fun _ _ => EReal.coe_add _ _⟩ : ℝ →+ EReal) _ _).symm

theorem score_real (t : Fin 2048) (e : Fin 64) : ∃ r : ℝ, score p t e = r ∧ 0 ≤ r := softmax_real _ (logit_real hp t) e

theorem mask_lt_score (t : Fin 2048) (e : Fin 64) : mask < score p t e := by
  obtain ⟨r, hr, h0⟩ := score_real hp t e
  rw [hr]
  exact mask_neg.trans_le (by exact_mod_cast h0)

theorem raw_real (e : Fin 16) (t : Fin 2048) (k : Fin 4) : ∃ r : ℝ, raw p e t k = r := by
  unfold raw pick Rank.first
  split_ifs
  · exact (score_real hp t _).imp fun _ h => h.1
  · exact ⟨0, rfl⟩

theorem wt_real (e : Fin 16) (t : Fin 2048) (k : Fin 4) : ∃ r : ℝ, wt p e t k = r ∧ 0 ≤ r := gate_real _ (raw_real hp e t) k

end Layer

end Cert.Moe
-- ==== Proof.Arrays.lean ====
/- The layer's arguments as arrays. -/
module

public import proofs.«01_k».proof.Proof.Moe
public import Idealize.ShloMosaic.Lib.Pointwise

/-!
The layer's arguments read off the eighteen arrays that hold them.
-/

@[expose] public section

noncomputable section

namespace Cert.Moe

open Idealize.ShloMosaic

/-- The arguments the arrays hold. -/
def ofArrays (a0 : Vec Ideal ⟨3, ![1, 2048, 1024]⟩ .f32) (a1 : Vec Ideal ⟨2, ![64, 1024]⟩ .f32) (a2 : Vec Ideal ⟨3, ![16, 1024, 4]⟩ .f32)
    (a3 : Vec Ideal ⟨3, ![16, 1408, 1024]⟩ .f32) (a4 : Vec Ideal ⟨4, ![16, 4, 8, 1024]⟩ .f32) (a5 : Vec Ideal ⟨4, ![16, 4, 1408, 8]⟩ .f32)
    (a6 : Vec Ideal ⟨2, ![16, 1408]⟩ .f32)
    (a7 : Vec Ideal ⟨3, ![16, 1408, 1024]⟩ .f32) (a8 : Vec Ideal ⟨4, ![16, 4, 8, 1024]⟩ .f32) (a9 : Vec Ideal ⟨4, ![16, 4, 1408, 8]⟩ .f32)
    (a10 : Vec Ideal ⟨2, ![16, 1408]⟩ .f32)
    (a11 : Vec Ideal ⟨3, ![16, 1024, 1408]⟩ .f32) (a12 : Vec Ideal ⟨4, ![16, 4, 8, 1408]⟩ .f32) (a13 : Vec Ideal ⟨4, ![16, 4, 1024, 8]⟩ .f32)
    (a14 : Vec Ideal ⟨2, ![16, 1024]⟩ .f32)
    (a15 : Vec Ideal ⟨2, ![2816, 1024]⟩ .f32) (a16 : Vec Ideal ⟨2, ![2816, 1024]⟩ .f32) (a17 : Vec Ideal ⟨2, ![1024, 2816]⟩ .f32) : Args where
  x t h := a0 (ix3 0 t h)
  wg e h := a1 (ix2 e h)
  mup e h k := a2 (ix3 e h k)
  gW e o h := a3 (ix3 e o h)
  gqa e k r h := a4 (ix4 e k r h)
  gqb e k o r := a5 (ix4 e k o r)
  gsc e o := a6 (ix2 e o)
  uW e o h := a7 (ix3 e o h)
  uqa e k r h := a8 (ix4 e k r h)
  uqb e k o r := a9 (ix4 e k o r)
  usc e o := a10 (ix2 e o)
  dW e o h := a11 (ix3 e o h)
  dqa e k r h := a12 (ix4 e k r h)
  dqb e k o r := a13 (ix4 e k o r)
  dsc e o := a14 (ix2 e o)
  sgW i h := a15 (ix2 i h)
  suW i h := a16 (ix2 i h)
  sdW o i := a17 (ix2 o i)

end Cert.Moe
-- ==== Proof.KernelIdealHost.lean ====
/- The regions' operands, entry by entry. -/
module

public import proofs.«01_k».proof.Proof.KernelIdealRun
public import proofs.«01_k».proof.Proof.Arrays
public import Idealize.ShloMosaic.Lib.Pointwise
public import Idealize.ShloMosaic.Lib.StableHlo.RunRead

/-!
What the host operations before the regions leave in each operand, in terms of the launch's arguments.
-/

@[expose] public section

set_option maxRecDepth 16384

noncomputable section

namespace Cert.KernelIdeal.Gen

open Idealize.ShloMosaic Cert.Moe

variable (m : (ℓ : Loc nD τ sig) → Buf (Elt Ideal) ℓ) (c : Dev nD)

/-- The layer's arguments a launch memory holds. -/
def args : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))

/-- The first factors' lanes: a member's eight rows follow one another. -/
theorem first_lanes1024 (x : FVec Ideal S16x4x8x1024 .f32) (e : Fin 16) (l : Fin 32) (o : Fin 1024) :
    truncf .bf16 (shapeCast S16x32x1024 x shapeCasts_S16x4x8x1024_S16x32x1024) bitsLt_bf16_f32 (ix3 e l o) = x (ix4 e (member l) (within l) o) := by
  pointwise []
  rfl

/-- The second factors' lanes, with the rank before the output. -/
theorem second_lanes1024 (x : FVec Ideal S16x4x1024x8 .f32) (e : Fin 16) (l : Fin 32) (o : Fin 1024) :
    truncf .bf16 (shapeCast S16x32x1024 (transpose S16x4x8x1024 [0, 1, 3, 2] x transposes_S16x4x1024x8_S16x4x8x1024_0_1_3_2) shapeCasts_S16x4x8x1024_S16x32x1024) bitsLt_bf16_f32 (ix3 e l o)
      = x (ix4 e (member l) o (within l)) := by
  pointwise []
  rfl

/-- The scales. -/
theorem scales1024 (x : FVec Ideal S16x1024 .f32) (e : Fin 16) (o : Fin 1024) :
    shapeCast S16x1x1024 x shapeCasts_S16x1024_S16x1x1024 (ix3 e 0 o) = x (ix2 e o) := by
  pointwise []

/-- The first factors' lanes: a member's eight rows follow one another. -/
theorem first_lanes1408 (x : FVec Ideal S16x4x8x1408 .f32) (e : Fin 16) (l : Fin 32) (o : Fin 1408) :
    truncf .bf16 (shapeCast S16x32x1408 x shapeCasts_S16x4x8x1408_S16x32x1408) bitsLt_bf16_f32 (ix3 e l o) = x (ix4 e (member l) (within l) o) := by
  pointwise []
  rfl

/-- The second factors' lanes, with the rank before the output. -/
theorem second_lanes1408 (x : FVec Ideal S16x4x1408x8 .f32) (e : Fin 16) (l : Fin 32) (o : Fin 1408) :
    truncf .bf16 (shapeCast S16x32x1408 (transpose S16x4x8x1408 [0, 1, 3, 2] x transposes_S16x4x1408x8_S16x4x8x1408_0_1_3_2) shapeCasts_S16x4x8x1408_S16x32x1408) bitsLt_bf16_f32 (ix3 e l o)
      = x (ix4 e (member l) o (within l)) := by
  pointwise []
  rfl

/-- The scales. -/
theorem scales1408 (x : FVec Ideal S16x1408 .f32) (e : Fin 16) (o : Fin 1408) :
    shapeCast S16x1x1408 x shapeCasts_S16x1408_S16x1x1408 (ix3 e 0 o) = x (ix2 e o) := by
  pointwise []

/-- The hidden states without their batch axis. -/
theorem hidden_rows (x : FVec Ideal S1x2048x1024 .f32) (t : Fin 2048) (h : Fin 1024) :
    shapeCast S2048x1024 x shapeCasts_S1x2048x1024_S2048x1024 (ix2 t h) = x (ix3 0 t h) := by
  pointwise []

/-- The upscaling factors, members before features. -/
theorem mup_rows (x : FVec Ideal S16x1024x4 .f32) (e : Fin 16) (k : Fin 4) (h : Fin 1024) :
    transpose S16x4x1024 [0, 2, 1] x transposes_S16x1024x4_S16x4x1024_0_2_1 (ix3 e k h) = x (ix3 e h k) := by
  pointwise []

theorem host_v0 (t : Fin 2048) (h : Fin 1024) :
    (V1 m c (Proc.devRef .tc main_call0_v0) : Vec Ideal S2048x1024 .f32) (ix2 t h) = (args m c).x t h := by
  unfold V1
  after_reads_simp
  exact hidden_rows _ t h

theorem host_v1 (t : Fin 2048) (h : Fin 1024) :
    (V1 m c (Proc.devRef .tc main_call0_v1) : Vec Ideal S2048x1024 .bf16) (ix2 t h) = (args m c).x t h := by
  unfold V1
  after_reads_simp
  exact hidden_rows _ t h

theorem host_v3 (e : Fin 16) (l : Fin 32) (o : Fin 1024) :
    (V1 m c (Proc.devRef .tc main_call0_v3) : Vec Ideal S16x32x1024 .bf16) (ix3 e l o) = (args m c).gqa e (member l) (within l) o := by
  unfold V1
  after_reads_simp
  exact first_lanes1024 _ e l o

theorem host_v5 (e : Fin 16) (l : Fin 32) (o : Fin 1024) :
    (V1 m c (Proc.devRef .tc main_call0_v5) : Vec Ideal S16x32x1024 .bf16) (ix3 e l o) = (args m c).uqa e (member l) (within l) o := by
  unfold V1
  after_reads_simp
  exact first_lanes1024 _ e l o

theorem host_v7 (e : Fin 16) (l : Fin 32) (o : Fin 1408) :
    (V1 m c (Proc.devRef .tc main_call0_v7) : Vec Ideal S16x32x1408 .bf16) (ix3 e l o) = (args m c).dqa e (member l) (within l) o := by
  unfold V1
  after_reads_simp
  exact first_lanes1408 _ e l o

theorem host_v10 (e : Fin 16) (l : Fin 32) (o : Fin 1408) :
    (V1 m c (Proc.devRef .tc main_call0_v10) : Vec Ideal S16x32x1408 .bf16) (ix3 e l o) = (args m c).gqb e (member l) o (within l) := by
  unfold V1
  after_reads_simp
  exact second_lanes1408 _ e l o

theorem host_v13 (e : Fin 16) (l : Fin 32) (o : Fin 1408) :
    (V1 m c (Proc.devRef .tc main_call0_v13) : Vec Ideal S16x32x1408 .bf16) (ix3 e l o) = (args m c).uqb e (member l) o (within l) := by
  unfold V1
  after_reads_simp
  exact second_lanes1408 _ e l o

theorem host_v16 (e : Fin 16) (l : Fin 32) (o : Fin 1024) :
    (V1 m c (Proc.devRef .tc main_call0_v16) : Vec Ideal S16x32x1024 .bf16) (ix3 e l o) = (args m c).dqb e (member l) o (within l) := by
  unfold V1
  after_reads_simp
  exact second_lanes1024 _ e l o

theorem host_v17 (e : Fin 16) (k : Fin 4) (h : Fin 1024) :
    (V1 m c (Proc.devRef .tc main_call0_v17) : Vec Ideal S16x4x1024 .f32) (ix3 e k h) = (args m c).mup e h k := by
  unfold V1
  after_reads_simp
  exact mup_rows _ e k h

theorem host_v18 (e : Fin 16) (o : Fin 1408) :
    (V1 m c (Proc.devRef .tc main_call0_v18) : Vec Ideal S16x1x1408 .f32) (ix3 e 0 o) = (args m c).gsc e o := by
  unfold V1
  after_reads_simp
  exact scales1408 _ e o

theorem host_v19 (e : Fin 16) (o : Fin 1408) :
    (V1 m c (Proc.devRef .tc main_call0_v19) : Vec Ideal S16x1x1408 .f32) (ix3 e 0 o) = (args m c).usc e o := by
  unfold V1
  after_reads_simp
  exact scales1408 _ e o

theorem host_v20 (e : Fin 16) (o : Fin 1024) :
    (V1 m c (Proc.devRef .tc main_call0_v20) : Vec Ideal S16x1x1024 .f32) (ix3 e 0 o) = (args m c).dsc e o := by
  unfold V1
  after_reads_simp
  exact scales1024 _ e o

theorem host_v21 (e : Fin 16) (o : Fin 1408) (h : Fin 1024) :
    (V1 m c (Proc.devRef .tc main_call0_v21) : Vec Ideal S16x1408x1024 .bf16) (ix3 e o h) = (args m c).gW e o h := by
  unfold V1
  after_reads_simp
  exact rfl

theorem host_v22 (e : Fin 16) (o : Fin 1408) (h : Fin 1024) :
    (V1 m c (Proc.devRef .tc main_call0_v22) : Vec Ideal S16x1408x1024 .bf16) (ix3 e o h) = (args m c).uW e o h := by
  unfold V1
  after_reads_simp
  exact rfl

theorem host_v23 (e : Fin 16) (o : Fin 1024) (h : Fin 1408) :
    (V1 m c (Proc.devRef .tc main_call0_v23) : Vec Ideal S16x1024x1408 .bf16) (ix3 e o h) = (args m c).dW e o h := by
  unfold V1
  after_reads_simp
  exact rfl

end Cert.KernelIdeal.Gen
-- ==== Proof.Precondition.lean ====
/- What the precondition says of a launch memory. -/
module

public import proofs.«01_k».proof.Defs
public import proofs.«01_k».proof.Proof.KernelIdealHost

/-!
The precondition holds of a launch memory exactly when the table lists the routed experts in order and the gate's two
inputs are finite; the side conditions its operations take are proved here.
-/

@[expose] public section

set_option maxRecDepth 16384

noncomputable section

namespace Cert.Proof

open Idealize.ShloMosaic Cert.Moe

/-- The side conditions of the precondition's operations. -/
theorem preFacts : Cert.Pre_gate_in_order.Facts where
  shapeCasts_S64_S16x4 := by decide
  bcast_S_S1x2048x1024 := by decide
  bcast_S_S64x1024 := by decide

attribute [local instance] preFacts

/-- A value below the infinity of the type in absolute value is a real number. -/
theorem real_of_abs_lt (x : EReal) (h : FloatOps.cmpf (F := Ideal) (φ := .f32) .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  have hb : BitVec.ofBool (decide (max x (-x) < ⊤)) = 1#1 := h
  have hlt : max x (-x) < ⊤ := by
    by_contra hn
    rw [decide_eq_false hn] at hb
    exact absurd hb (by decide)
  induction x using EReal.rec with
  | bot => simp at hlt
  | top => simp at hlt
  | coe r => exact ⟨r, rfl⟩

/-- Words that compare equal are equal. -/
theorem eq_of_word (a b : BitVec 32) (h : IntOp.cmpi .eq a b = 1#1) : a = b := by
  have hb : BitVec.ofBool (a == b) = 1#1 := h
  cases hab : a == b with
  | true => exact eq_of_beq hab
  | false => rw [hab] at hb; exact absurd hb (by decide)

variable {m : (ℓ : Loc Cert.KernelIdeal.nD Cert.KernelIdeal.τ Cert.KernelIdeal.sig) → Buf (Elt Ideal) ℓ}
  (h : Cert.Pre_KernelIdeal_gate_in_order m) (c : Dev Cert.KernelIdeal.nD)
include h

theorem gate_finite : (Cert.KernelIdeal.Gen.args m c).Finite where
  x t i := real_of_abs_lt _ (congrFun (h c).2.1 (ix3 0 t i))
  wg e i := real_of_abs_lt _ (congrFun (h c).2.2 (ix2 e i))

omit h in
/-- The table, entry by entry. -/
theorem table_word (x : IVec Cert.Pre_gate_in_order.S16x4 32)
    (hx : cmpi .eq x (shapeCast Cert.Pre_gate_in_order.S16x4 (iotaInDim Cert.Pre_gate_in_order.S64 32 0) preFacts.shapeCasts_S64_S16x4) = fun _ => 1#1)
    (e : Fin 16) (k : Fin 4) : x (ix2 e k) = BitVec.ofNat 32 (routed e k).val := by
  refine eq_of_word _ _ ((congrArg (IntOp.cmpi .eq (x (ix2 e k))) ?_).trans (congrFun hx (ix2 e k)))
  symm
  pointwise []
  rfl

theorem table_eq (e : Fin 16) (k : Fin 4) :
    (m ((c.tc : Thread Cert.KernelIdeal.nD Cert.KernelIdeal.τ).loc Cert.KernelIdeal.main_arg18) : IVec Cert.Pre_gate_in_order.S16x4 32) (ix2 e k)
      = BitVec.ofNat 32 (routed e k).val :=
  table_word _ (h c).1 e k

end Cert.Proof

end
-- ==== Proof.KernelIdealGateValue.lean ====
/- The gate region's values, entry by entry. -/
module

public import proofs.«01_k».proof.Proof.KernelIdealGate
public import proofs.«01_k».proof.Proof.Moe
public import Idealize.ShloMosaic.Lib.Pointwise

/-!
What the gate region computes of a block of 512 tokens, read at one entry: the softmax scores, the eight rounds of
"greatest entry left, overwrite it", and the shared experts' rows.
-/

@[expose] public section

set_option maxRecDepth 16384

noncomputable section

open scoped BigOperators

namespace Cert.KernelIdeal.Gen

open Idealize.ShloMosaic Cert.Moe Cert.Rank

/-- The lane numbers. -/
abbrev laneWords : IVec S512x64 32 := iota .tc S512x64 32 [1] iota_S512x64_d1_w32

/-- The lanes that hold the row's maximum, by number, the others at 64. -/
def candOf (cur : FVec Ideal S512x64 .f32) : IVec S512x64 32 :=
  select (cmpf .oeq cur (broadcastTo S512x64 (shapeCast S512x1
    (multiReduction .maximumf [1] S512 cur 0xFF800000#32 reduces_S512x64_S512 (.inl rfl) rfl) shapeCasts_S512_S512x1)
    broadcasts_S512x1_S512x64)) laneWords (broadcast S512x64 64#32)

/-- The lane of the least candidate number. -/
def hitOf (cand : IVec S512x64 32) : IVec S512x64 1 :=
  cmpi .eq laneWords (broadcastTo S512x64 (shapeCast S512x1
    (multiReductionI .minsi [1] S512 cand 2147483647#32 reduces_S512x64_S512 rfl) shapeCasts_S512_S512x1)
    broadcasts_S512x1_S512x64)

/-- One round on the row: the chosen lane is overwritten by the mask. -/
def nextCur (cur : FVec Ideal S512x64 .f32) : FVec Ideal S512x64 .f32 :=
  select (hitOf (candOf cur)) (broadcast S512x64 (Scalar.ofBits .f32 0xBF800000#32)) cur

/-- One round on the result: the chosen lane takes its score. -/
def nextSel (s cur sel : FVec Ideal S512x64 .f32) : FVec Ideal S512x64 .f32 := select (hitOf (candOf cur)) s sel

variable (x0 : Vec Ideal S512x1024 .f32) (x1 : Vec Ideal S64x1024 .f32)

/-- The row after `r` rounds, and the result. -/
def curAt : ℕ → FVec Ideal S512x64 .f32
  | 0 => k0_pay3 x0 x1
  | r + 1 => nextCur (curAt r)
def selAt : ℕ → FVec Ideal S512x64 .f32
  | 0 => broadcast S512x64 (Scalar.ofBits .f32 0x00000000#32)
  | r + 1 => nextSel (k0_pay3 x0 x1) (curAt x0 x1 r) (selAt r)

theorem pay4_eq : k0_pay4 x0 x1 = hitOf (candOf (curAt x0 x1 0)) := rfl
theorem pay5_eq : k0_pay5 x0 x1 = curAt x0 x1 1 := by
  unfold k0_pay5; rw [pay4_eq]; rfl
theorem pay6_eq : k0_pay6 x0 x1 = hitOf (candOf (curAt x0 x1 1)) := by
  rw [← pay5_eq]; rfl
theorem pay7_eq : k0_pay7 x0 x1 = selAt x0 x1 2 := by
  unfold k0_pay7; rw [pay4_eq, pay6_eq]; rfl

variable {cur : FVec Ideal S512x64 .f32}

theorem pay9_eq : k0_pay9 cur (hitOf (candOf cur)) k0_pay8 = nextCur cur := rfl
theorem pay10_eq : k0_pay10 laneWords cur (hitOf (candOf cur)) k0_pay8 = hitOf (candOf (nextCur cur)) := by
  rw [← pay9_eq]; rfl
theorem pay11_eq : k0_pay11 laneWords cur (hitOf (candOf cur)) k0_pay8 = nextCur (nextCur cur) := by
  unfold k0_pay11; rw [pay10_eq, pay9_eq]; rfl
theorem pay12_eq : k0_pay12 laneWords cur (hitOf (candOf cur)) k0_pay8 = hitOf (candOf (nextCur (nextCur cur))) := by
  rw [← pay11_eq]; rfl
theorem pay13_eq : k0_pay13 laneWords cur (hitOf (candOf cur)) k0_pay8 = nextCur (nextCur (nextCur cur)) := by
  unfold k0_pay13; rw [pay12_eq, pay11_eq]; rfl
theorem pay14_eq : k0_pay14 laneWords cur (hitOf (candOf cur)) k0_pay8 = hitOf (candOf (nextCur (nextCur (nextCur cur)))) := by
  rw [← pay13_eq]; rfl
theorem pay15_eq (s sel : FVec Ideal S512x64 .f32) : k0_pay15 s laneWords cur (hitOf (candOf cur)) sel k0_pay8
    = nextSel s (nextCur (nextCur (nextCur cur))) (nextSel s (nextCur (nextCur cur)) (nextSel s (nextCur cur) sel)) := by
  unfold k0_pay15; rw [pay10_eq, pay12_eq, pay14_eq]; rfl
theorem pay16_eq : k0_pay16 laneWords cur (hitOf (candOf cur)) k0_pay8 = nextCur (nextCur (nextCur (nextCur cur))) := by
  unfold k0_pay16; rw [pay14_eq, pay13_eq]; rfl
theorem pay17_eq : k0_pay17 laneWords cur (hitOf (candOf cur)) k0_pay8 = candOf (nextCur (nextCur (nextCur (nextCur cur)))) := by
  rw [← pay16_eq]; rfl
theorem pay18_eq (s sel : FVec Ideal S512x64 .f32) : k0_pay18 s laneWords sel cur (candOf cur)
    = nextSel s (nextCur (nextCur cur)) (nextSel s (nextCur cur) (nextSel s cur sel)) := rfl

/-- The routing weights are the result after eight rounds. -/
theorem route0_eq : route0 x0 x1 = selAt x0 x1 8 := by
  unfold route0
  rw [pay5_eq, pay6_eq, pay7_eq, pay15_eq, pay16_eq, pay17_eq, pay18_eq]
  rfl

/-! ## At one entry -/

/-- The scores of a block's token. -/
def scores (t : Fin 512) : Fin 64 → EReal := softmax fun e => ∑ h : Fin 1024, x0 (ix2 t h) * x1 (ix2 e h)

theorem pay2_apply (t : Fin 512) (h : Fin 1024) : k0_pay2 x0 (ix2 t h) = x0 (ix2 t h) := by
  pointwise [k0_pay2]

theorem pay3_apply (t : Fin 512) (e : Fin 64) : k0_pay3 x0 x1 (ix2 t e) = scores x0 x1 t e := by
  pointwise [k0_pay3]
  simp only [pay2_apply]
  rfl

theorem candOf_apply (cur : FVec Ideal S512x64 .f32) (t : Fin 512) (e : Fin 64) :
    candOf cur (ix2 t e) = if cur (ix2 t e) = Finset.fold max bottom (fun x => cur (ix2 t x)) Finset.univ
      then BitVec.ofNat 32 e.val else 64#32 := by
  pointwise [candOf, laneWords]

theorem hitOf_apply (cand : IVec S512x64 32) (t : Fin 512) (e : Fin 64) :
    hitOf cand (ix2 t e) = IntOp.cmpi .eq (BitVec.ofNat 32 e.val)
      (Finset.fold IntOp.minsi 2147483647#32 (fun x => cand (ix2 t x)) Finset.univ) := by
  pointwise [hitOf, laneWords]

theorem nextCur_apply (cur : FVec Ideal S512x64 .f32) (t : Fin 512) (e : Fin 64) :
    nextCur cur (ix2 t e) = Scalar.select (hitOf (candOf cur) (ix2 t e)) mask (cur (ix2 t e)) := by
  pointwise [nextCur]

theorem nextSel_apply (s cur sel : FVec Ideal S512x64 .f32) (t : Fin 512) (e : Fin 64) :
    nextSel s cur sel (ix2 t e) = Scalar.select (hitOf (candOf cur) (ix2 t e)) (s (ix2 t e)) (sel (ix2 t e)) := by
  pointwise [nextSel]

variable (t : Fin 512) (hs : ∀ e, mask < scores x0 x1 t e)
include hs

/-- A round that finds the row with its first `r` entries overwritten chooses the entry of rank `r`. -/
theorem hit_apply (r : Fin 64) (hcur : ∀ e, curAt x0 x1 r.val (ix2 t e) = left (scores x0 x1 t) mask r.val e) (e : Fin 64) :
    hitOf (candOf (curAt x0 x1 r.val)) (ix2 t e) = if e = place (scores x0 x1 t) r then 1#1 else 0#1 := by
  have hpk : Finset.fold max bottom (fun x => left (scores x0 x1 t) mask r.val x) Finset.univ
      = scores x0 x1 t (place (scores x0 x1 t) r) :=
    left_peak _ mask bottom hs (fun a => by rw [bottom_eq]; exact bot_le) r
  rw [hitOf_apply]
  simp only [candOf_apply, hcur, hpk]
  rw [fold_first _ (place (scores x0 x1 t) r) (left_place _ _ _) (fun x hx => place_le_of_peak _ mask hs r x hx)]
  have hw : ∀ a b : Fin 64, IntOp.cmpi .eq (BitVec.ofNat 32 a.val) (BitVec.ofNat 32 b.val) = if a = b then 1#1 else 0#1 := by
    decide +kernel
  exact hw _ _

theorem curAt_apply (r : ℕ) (hr : r ≤ 64) (e : Fin 64) : curAt x0 x1 r (ix2 t e) = left (scores x0 x1 t) mask r e := by
  induction r generalizing e with
  | zero => exact (pay3_apply x0 x1 t e).trans (by simp [left])
  | succ r ih =>
    have hcur := ih (by omega)
    show nextCur (curAt x0 x1 r) (ix2 t e) = _
    rw [nextCur_apply, hit_apply x0 x1 t hs ⟨r, by omega⟩ hcur, left_succ _ _ ⟨r, by omega⟩, hcur]
    split_ifs <;> rfl

/-- After `r` rounds the result holds the scores of the first `r` ranks. -/
theorem selAt_apply (r : ℕ) (hr : r ≤ 64) (e : Fin 64) : selAt x0 x1 r (ix2 t e) = first (scores x0 x1 t) r e := by
  induction r generalizing e with
  | zero =>
    show Ideal.ofBits .f32 0x00000000#32 = _
    simp [first]
  | succ r ih =>
    show nextSel (k0_pay3 x0 x1) (curAt x0 x1 r) (selAt x0 x1 r) (ix2 t e) = _
    rw [nextSel_apply, hit_apply x0 x1 t hs ⟨r, by omega⟩ (curAt_apply x0 x1 t hs r (by omega)), pay3_apply,
      ih (by omega), first_succ _ ⟨r, by omega⟩]
    split_ifs <;> rfl

/-- The routing weight of an expert: its score if it is among the token's eight greatest, and zero otherwise. -/
theorem route0_apply (e : Fin 64) : route0 x0 x1 (ix2 t e) = pick (scores x0 x1 t) e := by
  rw [route0_eq]
  exact selAt_apply x0 x1 t hs 8 (by decide) e

omit hs

/-- The shared experts' entry. -/
theorem shared0_apply (x2 x3 : Vec Ideal S2816x1024 .f32) (x4 : Vec Ideal S1024x2816 .f32) (o : Fin 1024) :
    shared0 x0 x2 x3 x4 (ix2 t o)
      = ∑ i : Fin 2816, silu (∑ h : Fin 1024, x0 (ix2 t h) * x2 (ix2 i h)) * (∑ h : Fin 1024, x0 (ix2 t h) * x3 (ix2 i h)) * x4 (ix2 o i) := by
  pointwise [shared0, k0_pay1, k0_pay19]
  simp only [pay2_apply]
  rfl

end Cert.KernelIdeal.Gen
-- ==== Proof.KernelIdealExpertValue.lean ====
/- One point of the experts' region, entry by entry. -/
module

public import proofs.«01_k».proof.Proof.KernelIdealRun
public import proofs.«01_k».proof.Proof.Moe
public import Idealize.ShloMosaic.Lib.Pointwise

/-!
What one point of the experts' region adds to its rows of the result buffer, given what its sixteen input blocks hold of
the layer's arguments.
-/

@[expose] public section

set_option maxRecDepth 16384

noncomputable section

open scoped BigOperators

namespace Cert.KernelIdeal.Gen

open Idealize.ShloMosaic Cert.Moe

/-- What the blocks of expert `e` hold. -/
structure Blocks (p : Args) (e : Fin 16) (x0 : Vec Ideal S2048x1024 .bf16) (x1 : Vec Ideal S2048x64 .f32) (x2 : Vec Ideal S2048x1024 .bf16) (x3 : Vec Ideal S1x1408x1024 .bf16) (x4 : Vec Ideal S1x32x1024 .bf16) (x5 : Vec Ideal S1x32x1408 .bf16) (x6 : Vec Ideal S1x1x1408 .f32) (x7 : Vec Ideal S1x1408x1024 .bf16) (x8 : Vec Ideal S1x32x1024 .bf16) (x9 : Vec Ideal S1x32x1408 .bf16) (x10 : Vec Ideal S1x1x1408 .f32) (x11 : Vec Ideal S1x1024x1408 .bf16) (x12 : Vec Ideal S1x32x1408 .bf16) (x13 : Vec Ideal S1x32x1024 .bf16) (x14 : Vec Ideal S1x1x1024 .f32) (x15 : Vec Ideal S1x4x1024 .f32) : Prop where
  h0 : ∀ t h, x0 (ix2 t h) = p.x t h
  h1 : ∀ t j, x1 (ix2 t j) = pick (score p t) j
  h2 : ∀ t o, x2 (ix2 t o) = shared p t o
  h3 : ∀ o h, x3 (ix3 0 o h) = p.gW e o h
  h4 : ∀ l h, x4 (ix3 0 l h) = p.gqa e (member l) (within l) h
  h5 : ∀ l o, x5 (ix3 0 l o) = p.gqb e (member l) o (within l)
  h6 : ∀ o, x6 (ix3 0 0 o) = p.gsc e o
  h7 : ∀ o h, x7 (ix3 0 o h) = p.uW e o h
  h8 : ∀ l h, x8 (ix3 0 l h) = p.uqa e (member l) (within l) h
  h9 : ∀ l o, x9 (ix3 0 l o) = p.uqb e (member l) o (within l)
  h10 : ∀ o, x10 (ix3 0 0 o) = p.usc e o
  h11 : ∀ o i, x11 (ix3 0 o i) = p.dW e o i
  h12 : ∀ l i, x12 (ix3 0 l i) = p.dqa e (member l) (within l) i
  h13 : ∀ l o, x13 (ix3 0 l o) = p.dqb e (member l) o (within l)
  h14 : ∀ o, x14 (ix3 0 0 o) = p.dsc e o
  h15 : ∀ k h, x15 (ix3 0 k h) = p.mup e h k

/-! ## Selecting by a table of zeros and ones -/

theorem word_value (b : BitVec 1) : FloatOps.sitofp (F := Ideal) .f32 (BitVec.setWidth 32 b) = if b = 1#1 then (1 : EReal) else 0 := by
  rcases BitVec.eq_zero_or_eq_one b with rfl | rfl
  · show ((((0#32 : BitVec 32).toInt : ℤ) : ℝ) : EReal) = _
    simp
  · show ((((1#32 : BitVec 32).toInt : ℤ) : ℝ) : EReal) = _
    simp

theorem sum_select {n : ℕ} (f : Fin n → EReal) (c : Fin n → BitVec 1) (a : Fin n) (h : ∀ x, c x = 1#1 ↔ x = a) :
    ∑ x, f x * FloatOps.sitofp (F := Ideal) .f32 (BitVec.setWidth 32 (c x)) = f a := by
  simp only [word_value, h, mul_ite, mul_one, mul_zero, Finset.sum_ite_eq', Finset.mem_univ, if_true]

theorem routed_word : ∀ (e : Fin 16) (k : Fin 4) (x : Fin 64),
    IntOp.cmpi .eq (BitVec.ofNat 32 x.val) (IntOp.addi (BitVec.ofNat 32 k.val) (Scalar.muli (BitVec.ofNat 32 e.val) 4#32)) = 1#1
      ↔ x = routed e k := by
  decide +kernel

theorem member_word : ∀ (l : Fin 32) (k : Fin 4),
    IntOp.cmpi .eq (BitVec.ofNat 32 k.val)
      (Scalar.select (IntOp.andi
          (IntOp.cmpi .ne (IntOp.subi (BitVec.setWidth 32 (IntOp.cmpi .sgt (BitVec.ofNat 32 l.val) 0#32))
              (BitVec.setWidth 32 (IntOp.cmpi .slt (BitVec.ofNat 32 l.val) 0#32)))
            (Scalar.subi (Scalar.extui (Scalar.cmpi .sgt 8#32 0#32)) (Scalar.extui (Scalar.cmpi .slt 8#32 0#32))))
          (IntOp.cmpi .ne (IntOp.remsi .vector (BitVec.ofNat 32 l.val) 8#32) 0#32))
        (IntOp.subi (IntOp.divsi .vector (BitVec.ofNat 32 l.val) 8#32) 1#32)
        (IntOp.divsi .vector (BitVec.ofNat 32 l.val) 8#32)) = 1#1 ↔ k = member l := by
  decide +kernel

/-! ## The stages of a point -/

section Stages

variable {p : Args} (i : grid1.Coords) {x0 : Vec Ideal S2048x1024 .bf16} {x1 : Vec Ideal S2048x64 .f32} {x2 : Vec Ideal S2048x1024 .bf16} {x3 : Vec Ideal S1x1408x1024 .bf16} {x4 : Vec Ideal S1x32x1024 .bf16} {x5 : Vec Ideal S1x32x1408 .bf16} {x6 : Vec Ideal S1x1x1408 .f32} {x7 : Vec Ideal S1x1408x1024 .bf16} {x8 : Vec Ideal S1x32x1024 .bf16} {x9 : Vec Ideal S1x32x1408 .bf16} {x10 : Vec Ideal S1x1x1408 .f32} {x11 : Vec Ideal S1x1024x1408 .bf16} {x12 : Vec Ideal S1x32x1408 .bf16} {x13 : Vec Ideal S1x32x1024 .bf16} {x14 : Vec Ideal S1x1x1024 .f32} {x15 : Vec Ideal S1x4x1024 .f32}

/-- Row `t` of the tile, in the whole array. -/
def row (t : Fin 1024) : Fin 2048 := ⟨1024 * (i 1).val + t.val, by have h : (i 1).val < 2 := (i 1).isLt; omega⟩

/-- A tile of rows read at an entry. -/
theorem at_row {e : EltTy} {n : ℕ} (x : Vec Ideal ⟨2, ![2048, n]⟩ e) (off : Fin 2 → ℕ) (h : off = ![1024 * (i 1).val, 0])
    (t : Fin 1024) (o : Fin n) (h0 : off 0 + t.val < 2048) (h1 : off 1 + o.val < n) :
    x (ix2 ⟨off 0 + t.val, h0⟩ ⟨off 1 + o.val, h1⟩) = x (ix2 (row i t) o) := by
  subst h
  exact congrArg (fun a => x (ix2 (row i t) a)) (Fin.ext (Nat.zero_add _))

theorem zero3 : (![0, 0, 0] : Fin 3 → ℕ) = fun _ => 0 := by decide

variable (hb : Blocks p (i 0) x0 x1 x2 x3 x4 x5 x6 x7 x8 x9 x10 x11 x12 x13 x14 x15)
include hb

theorem raw_apply (t : Fin 1024) (k : Fin 4) :
    k1_pay4 i (View.ld x1 (Rect.unit (s := S2048x64) (k1_off1 i) S1024x64.size (k1_off1_inb i))) (ix2 t k) = raw p (i 0) (row i t) k := by
  pointwise [k1_pay4]
  rw [sum_select _ _ (routed (i 0) k) (routed_word (i 0) k)]
  exact (at_row i x1 _ (off1_rows i) t _ _ _).trans (hb.h1 _ _)

theorem wts1_apply (t : Fin 1024) (k : Fin 4) : wts1 i x1 (ix2 t k) = wt p (i 0) (row i t) k := by
  pointwise [wts1, k1_pay6]
  simp only [raw_apply i hb]
  rfl

theorem total_apply (t : Fin 1024) :
    k1_pay5 i (View.ld x1 (Rect.unit (s := S2048x64) (k1_off1 i) S1024x64.size (k1_off1_inb i))) (ix2 t 0) = ∑ k, raw p (i 0) (row i t) k := by
  pointwise [k1_pay5]
  simp only [raw_apply i hb]

theorem lanes1_apply (t : Fin 1024) (l : Fin 32) : lanes1 i x1 (ix2 t l) = wt p (i 0) (row i t) (member l) := by
  pointwise [lanes1, k1_pay9, k1_pay7, k1_pay8]
  rw [sum_select _ _ (member l) (member_word l), wts1_apply i hb]

theorem act1_apply (t : Fin 1024) (h : Fin 1024) : act1 i x0 x1 x15 (ix2 t h) = act p (i 0) (row i t) h := by
  pointwise [act1, k1_pay10]
  simp only [wts1_apply i hb]
  refine congrArg₂ (· + ·) ((at_row i x0 _ (off2_rows i) t _ _ _).trans (hb.h0 _ _)) (Finset.sum_congr rfl fun k _ => ?_)
  exact congrArg _ (hb.h15 k h)

theorem gateMain1_apply (t : Fin 1024) (o : Fin 1408) : gateMain1 i x0 x1 x3 x15 (ix2 t o) = ∑ h, act p (i 0) (row i t) h * p.gW (i 0) o h := by
  pointwise [gateMain1, k1_pay11]
  exact Finset.sum_congr rfl fun h _ => congrArg₂ (· * ·) (act1_apply i hb t h) (hb.h3 o h)

theorem gateLow1_apply (hp : p.Finite) (t : Fin 1024) (o : Fin 1408) :
    gateLow1 i x0 x1 x4 x5 x15 (ix2 t o) = low (p.gqa (i 0)) (p.gqb (i 0)) (wt p (i 0) (row i t)) (act p (i 0) (row i t)) o := by
  pointwise [gateLow1, k1_pay12]
  refine Eq.trans ?_ (low_eq_lanes _ _ _ (wt_real hp (i 0) (row i t)) _ o)
  exact Finset.sum_congr rfl fun l _ => congrArg₂ (· * ·) (congrArg₂ (· * ·)
    (Finset.sum_congr rfl fun h _ => congrArg₂ (· * ·) (act1_apply i hb t h) (hb.h4 l h)) (lanes1_apply i hb t l)) (hb.h5 l o)

theorem hid1_apply (hp : p.Finite) (t : Fin 1024) (o : Fin 1408) :
    k1_pay13 (lanes1 i x1) (act1 i x0 x1 x15) (gateMain1 i x0 x1 x3 x15) (gateLow1 i x0 x1 x4 x5 x15) (View.ld x6 (Rect.unit (s := S1x1x1408) ![0, 0, 0] S1x1x1408.size inb_S1x1x1408_S1x1x1408_0_0_0)) (View.ld x7 (Rect.unit (s := S1x1408x1024) ![0, 0, 0] S1x1408x1024.size inb_S1x1408x1024_S1x1408x1024_0_0_0)) (View.ld x8 (Rect.unit (s := S1x32x1024) ![0, 0, 0] S1x32x1024.size inb_S1x32x1024_S1x32x1024_0_0_0)) (View.ld x9 (Rect.unit (s := S1x32x1408) ![0, 0, 0] S1x32x1408.size inb_S1x32x1408_S1x32x1408_0_0_0)) (View.ld x10 (Rect.unit (s := S1x1x1408) ![0, 0, 0] S1x1x1408.size inb_S1x1x1408_S1x1x1408_0_0_0)) (ix2 t o) = hid p (i 0) (row i t) o := by
  pointwise [k1_pay13]
  have hg := congrArg₂ (· + ·) (gateMain1_apply i hb t o) (congrArg₂ (· * ·) (hb.h6 o) (gateLow1_apply i hb hp t o))
  have hu := congrArg₂ (· + ·) (Finset.sum_congr rfl fun h _ => congrArg₂ (· * ·) (act1_apply i hb t h) (hb.h7 o h) :
      ∑ h, act1 i x0 x1 x15 (ix2 t h) * x7 (ix3 0 o h) = _) (congrArg₂ (· * ·) (hb.h10 o)
    ((Finset.sum_congr rfl fun l _ => congrArg₂ (· * ·) (congrArg₂ (· * ·)
      (Finset.sum_congr rfl fun h _ => congrArg₂ (· * ·) (act1_apply i hb t h) (hb.h8 l h)) (lanes1_apply i hb t l)) (hb.h9 l o) :
      ∑ l, (∑ h, act1 i x0 x1 x15 (ix2 t h) * x8 (ix3 0 l h)) * lanes1 i x1 (ix2 t l) * x9 (ix3 0 l o) = _).trans
      (low_eq_lanes _ _ _ (wt_real hp (i 0) (row i t)) _ o)))
  exact congrArg₂ (· * ·) (congrArg silu hg) hu

theorem downMain1_apply (hp : p.Finite) (t : Fin 1024) (o : Fin 1024) :
    downMain1 i x0 x1 x2 x3 x4 x5 x6 x7 x8 x9 x10 x11 x12 x13 x14 x15 (ix2 t o) = ∑ h, hid p (i 0) (row i t) h * p.dW (i 0) o h := by
  pointwise [downMain1, k1_pay14]
  exact Finset.sum_congr rfl fun h _ => congrArg₂ (· * ·) (hid1_apply i hb hp t h) (hb.h11 o h)

theorem downLow1_apply (hp : p.Finite) (t : Fin 1024) (l : Fin 32) :
    downLow1 i x0 x1 x2 x3 x4 x5 x6 x7 x8 x9 x10 x11 x12 x13 x14 x15 (ix2 t l)
      = (∑ h, hid p (i 0) (row i t) h * p.dqa (i 0) (member l) (within l) h) * wt p (i 0) (row i t) (member l) := by
  pointwise [downLow1, k1_pay15]
  exact congrArg₂ (· * ·) (Finset.sum_congr rfl fun h _ => congrArg₂ (· * ·) (hid1_apply i hb hp t h) (hb.h12 l h)) (lanes1_apply i hb t l)

/-- The point's weighted expert rows. -/
theorem term1_apply (hp : p.Finite) (t : Fin 1024) (o : Fin 1024) :
    k1_pay1 (k1_pay5 i (View.ld x1 (Rect.unit (s := S2048x64) (k1_off1 i) S1024x64.size (k1_off1_inb i)))) (downMain1 i x0 x1 x2 x3 x4 x5 x6 x7 x8 x9 x10 x11 x12 x13 x14 x15) (downLow1 i x0 x1 x2 x3 x4 x5 x6 x7 x8 x9 x10 x11 x12 x13 x14 x15)
        (View.ld x13 (Rect.unit (s := S1x32x1024) ![0, 0, 0] S1x32x1024.size inb_S1x32x1024_S1x32x1024_0_0_0)) (View.ld x14 (Rect.unit (s := S1x1x1024) ![0, 0, 0] S1x1x1024.size inb_S1x1x1024_S1x1x1024_0_0_0)) (ix2 t o)
      = term p (i 0) (row i t) o := by
  pointwise [k1_pay1]
  have hd := (Finset.sum_congr rfl fun l _ => congrArg₂ (· * ·) (downLow1_apply i hb hp t l) (hb.h13 l o) :
      ∑ l, downLow1 i x0 x1 x2 x3 x4 x5 x6 x7 x8 x9 x10 x11 x12 x13 x14 x15 (ix2 t l) * x13 (ix3 0 l o) = _).trans
    (low_eq_lanes _ _ _ (wt_real hp (i 0) (row i t)) _ o)
  exact congrArg₂ (· * ·) (total_apply i hb t) (congrArg₂ (· + ·) (downMain1_apply i hb hp t o) (congrArg₂ (· * ·) (hb.h14 o) hd))

omit hb in
/-- An entry of the tile, in the whole array. -/
theorem idx_row (off : Fin 2 → ℕ) (h : off = ![1024 * (i 1).val, 0]) (inb) (t : Fin 1024) (o : Fin 1024) :
    (Rect.unit (s := S2048x1024) off S1024x1024.size inb).emb (ix2 t o) = ix2 (row i t) o := by
  subst h
  refine funext fun a => Fin.ext ?_
  match a with
  | ⟨0, _⟩ => exact congrArg (1024 * (i 1).val + ·) (Nat.one_mul t.val)
  | ⟨1, _⟩ => exact (congrArg (0 + ·) (Nat.one_mul o.val)).trans (Nat.zero_add _)

/-- A row of the point's tile after the point: the first expert starts from the shared rows. -/
theorem step1_row (hp : p.Finite) (Y : Vec Ideal S2048x1024 .f32) (t : Fin 1024) (o : Fin 1024) :
    step1 i x0 x1 x2 x3 x4 x5 x6 x7 x8 x9 x10 x11 x12 x13 x14 x15 Y (ix2 (row i t) o)
      = (if (i 0).val = 0 then shared p (row i t) o else Y (ix2 (row i t) o)) + term p (i 0) (row i t) o := by
  unfold step1
  by_cases hc : k1_cond1 i = 1#1
  · rw [dif_pos hc, if_pos ((cond1_iff i).mp hc), ← idx_row i _ (off3_rows i) (k1_off3_inb i hc) t o]
    refine (Rect.overlay_emb (Rect.unit (s := S2048x1024) (k1_off3 i) S1024x1024.size (k1_off3_inb i hc)) Y _ (ix2 t o)).trans ?_
    pointwise [k1_pay2]
    exact congrArg₂ (· + ·) ((at_row i x2 _ (off3_rows i) t o _ _).trans (hb.h2 _ _)) (term1_apply i hb hp t o)
  · have hc' : k1_cond2 i = 1#1 := ((cond_split i).resolve_left fun h => hc h.1).2
    rw [dif_neg hc, dif_pos hc', if_neg (mt (cond1_iff i).mpr hc), ← idx_row i _ (off4_rows i) (k1_off4_inb i hc') t o]
    refine (Rect.overlay_emb (Rect.unit (s := S2048x1024) (k1_off4 i) S1024x1024.size (k1_off4_inb i hc')) Y _ (ix2 t o)).trans ?_
    pointwise [k1_pay3]
    exact congrArg₂ (· + ·) ((at_row i Y _ (off4_rows i) t o _ _).trans (congrArg Y (idx_row i _ (off4_rows i) (k1_off4_inb i hc') t o).symm))
      (term1_apply i hb hp t o)

end Stages

end Cert.KernelIdeal.Gen
-- ==== Proof.KernelIdealValue.lean ====
/- What the launch's result holds, entry by entry. -/
module

public import proofs.«01_k».proof.Proof.KernelIdealHost
public import proofs.«01_k».proof.Proof.KernelIdealGateValue
public import proofs.«01_k».proof.Proof.KernelIdealExpertValue

/-!
The two regions' arrays at their ends, and the result of the launch: the layer's output.
-/

@[expose] public section

set_option maxRecDepth 16384

noncomputable section

open scoped BigOperators

namespace Cert.KernelIdeal.Gen

open Idealize.ShloMosaic Cert.Moe
open Idealize.ShloMosaic.Pipeline (Dat RDat Cfg Window cellOf)

/-! ## Reading a block of an array -/

/-- A block that is its whole array. -/
theorem read_whole {a b : ℕ} {α : Type} (X : (⟨2, ![a, b]⟩ : Shape).Idx → α) {j : Fin 2 → ℕ} (hj : j = ![0, 0]) (y : Fin a) (z : Fin b)
    {i : (⟨2, ![a, b]⟩ : Shape).Idx} (h0 : (i 0).val = j 0 * a + 1 * y.val) (h1 : (i 1).val = j 1 * b + 1 * z.val) : X i = X (ix2 y z) := by
  subst hj
  refine congrArg X (funext fun d => Fin.ext ?_)
  match d with
  | ⟨0, _⟩ => exact h0.trans (show 0 * a + 1 * y.val = y.val by omega)
  | ⟨1, _⟩ => exact h1.trans (show 0 * b + 1 * z.val = z.val by omega)

/-- The block of one expert. -/
theorem read_expert {a b : ℕ} {α : Type} (X : (⟨3, ![16, a, b]⟩ : Shape).Idx → α) {j : Fin 3 → ℕ} (e : Fin 16)
    (hj : j = ![e.val, 0, 0]) (y : Fin a) (z : Fin b) {i : (⟨3, ![16, a, b]⟩ : Shape).Idx} (h0 : (i 0).val = j 0 * 1 + 1 * 0)
    (h1 : (i 1).val = j 1 * a + 1 * y.val) (h2 : (i 2).val = j 2 * b + 1 * z.val) : X i = X (ix3 e y z) := by
  subst hj
  refine congrArg X (funext fun d => Fin.ext ?_)
  match d with
  | ⟨0, _⟩ => exact h0.trans (show e.val * 1 + 1 * 0 = e.val by omega)
  | ⟨1, _⟩ => exact h1.trans (show 0 * a + 1 * y.val = y.val by omega)
  | ⟨2, _⟩ => exact h2.trans (show 0 * b + 1 * z.val = z.val by omega)

/-- The row of the whole array behind a row of a tile of 512. -/
def row0 (t : Fin grid0.N) (y : Fin 512) : Fin 2048 := ⟨512 * t.val + y.val, by have h : t.val < 4 := t.isLt; omega⟩

/-- A tile of 512 rows. -/
theorem read_rows {b : ℕ} {α : Type} (X : (⟨2, ![2048, b]⟩ : Shape).Idx → α) {j : Fin 2 → ℕ} (t : Fin grid0.N)
    (hj : j = ![t.val, 0]) (y : Fin 512) (z : Fin b) {i : (⟨2, ![2048, b]⟩ : Shape).Idx} (h0 : (i 0).val = j 0 * 512 + 1 * y.val)
    (h1 : (i 1).val = j 1 * b + 1 * z.val) : X i = X (ix2 (row0 t y) z) := by
  subst hj
  refine congrArg X (funext fun d => Fin.ext ?_)
  match d with
  | ⟨0, _⟩ => exact h0.trans (show t.val * 512 + 1 * y.val = 512 * t.val + y.val by omega)
  | ⟨1, _⟩ => exact h1.trans (show 0 * b + 1 * z.val = z.val by omega)

theorem index_whole : (![(0#32 : BitVec 32).toNat, (0#32 : BitVec 32).toNat] : Fin 2 → ℕ) = ![0, 0] := rfl

theorem index_expert : ∀ t : Fin grid1.N, (![(BitVec.ofNat 32 (grid1.coords t 0).val).toNat, (0#32 : BitVec 32).toNat, (0#32 : BitVec 32).toNat] : Fin 3 → ℕ)
    = ![(grid1.coords t 0).val, 0, 0] := by
  decide +kernel

theorem index_rows : ∀ t : Fin grid0.N, (![(BitVec.ofNat 32 (grid0.coords t 0).val).toNat, (0#32 : BitVec 32).toNat] : Fin 2 → ℕ) = ![t.val, 0] := by
  decide +kernel

/-- The tile of a row, and its place there. -/
theorem row0_split (T : Fin 2048) : ∃ (t : Fin grid0.N) (y : Fin 512), row0 t y = T :=
  ⟨⟨T.val / 512, by show _ < 4; omega⟩, ⟨T.val % 512, Nat.mod_lt _ (by decide)⟩, Fin.ext (Nat.div_add_mod _ _)⟩

theorem eta2 {a b : ℕ} (z : (⟨2, ![a, b]⟩ : Shape).Idx) : ∃ (y : Fin a) (x : Fin b), z = ix2 y x :=
  ⟨z 0, z 1, by funext d; match d with | ⟨0, _⟩ => rfl | ⟨1, _⟩ => rfl⟩

/-- A row lies in its tile. -/
theorem mem_tile {b : ℕ} {j : Fin 2 → ℕ} (t : Fin grid0.N) (hj : j = ![t.val, 0]) (y : Fin 512) (x : Fin b) (d : Fin 2) :
    j d * ![512, b] d ≤ (ix2 (row0 t y) x d).val ∧ (ix2 (row0 t y) x d).val < j d * ![512, b] d + ![512, b] d := by
  subst hj
  match d with
  | ⟨0, _⟩ => show t.val * 512 ≤ 512 * t.val + y.val ∧ 512 * t.val + y.val < t.val * 512 + 512; omega
  | ⟨1, _⟩ => show 0 * b ≤ x.val ∧ x.val < 0 * b + b; omega

/-! ## The arrays at the regions' ends -/

section Ends

variable (V : Valuation τ sig (Elt Ideal)) (c : Dev nD)

theorem flushed0_5 (t : Fin cfg0.N) (af) (X : Vec Ideal S512x64 .f32) (h : af 5 t = X) : ((rd0 V c).withAfter af).flushed 5 t = X :=
  (show _ = (cfg0.win 5).cut (cfg0.grid.coords t) (af 5 t) from rfl).trans (congrArg ((cfg0.win 5).cut (cfg0.grid.coords t)) h)

theorem flushed0_6 (t : Fin cfg0.N) (af) (X : Vec Ideal S512x1024 .bf16) (h : af 6 t = X) : ((rd0 V c).withAfter af).flushed 6 t = X :=
  (show _ = (cfg0.win 6).cut (cfg0.grid.coords t) (af 6 t) from rfl).trans (congrArg ((cfg0.win 6).cut (cfg0.grid.coords t)) h)

theorem flushed1_16 (t : Fin cfg1.N) (af) (X : Vec Ideal S2048x1024 .f32) (h : af 16 t = X) : ((rd1 V c).withAfter af).flushed 16 t = X :=
  (show _ = (cfg1.win 16).cut (cfg1.grid.coords t) (af 16 t) from rfl).trans (congrArg ((cfg1.win 16).cut (cfg1.grid.coords t)) h)

/-- The routing weights, from what each tile computes. -/
theorem final0_5 (R : Vec Ideal S2048x64 .f32)
    (hR : ∀ t y e, (route0 (blk0 V c 0 t) (blk0 V c 1 t) : Vec Ideal S512x64 .f32) (ix2 y e) = R (ix2 (row0 t y) e)) : final0 V c 5 = R := by
  refine Dat.arrAt_eq_of_cover ((rd0 V c).withAfter (after0 V c)) 5 R (fun t _ => ?_) (fun i => ?_)
  · refine (flushed0_5 V c t _ _ rfl).trans (funext fun (z : S512x64.Idx) => ?_)
    obtain ⟨y, e, rfl⟩ := eta2 z
    exact (hR t y e).trans (read_rows R t (index_rows t) y e rfl rfl).symm
  · obtain ⟨T, e, rfl⟩ := eta2 i
    obtain ⟨t, y, rfl⟩ := row0_split T
    refine ⟨t, flush0_5 t, ?_⟩
    show _ ∈ ((View.whole main_call0_v24_0).slice (win0_5.rect t)).set
    rw [View.set_slice_whole]
    exact Rect.mem_set_unit.mpr (mem_tile t (index_rows t) y e)

/-- The shared rows, from what each tile computes. -/
theorem final0_6 (R : Vec Ideal S2048x1024 .bf16)
    (hR : ∀ t y e, (shared0 (blk0 V c 0 t) (blk0 V c 2 t) (blk0 V c 3 t) (blk0 V c 4 t) : Vec Ideal S512x1024 .bf16) (ix2 y e) = R (ix2 (row0 t y) e)) :
    final0 V c 6 = R := by
  refine Dat.arrAt_eq_of_cover ((rd0 V c).withAfter (after0 V c)) 6 R (fun t _ => ?_) (fun i => ?_)
  · refine (flushed0_6 V c t _ _ rfl).trans (funext fun (z : S512x1024.Idx) => ?_)
    obtain ⟨y, e, rfl⟩ := eta2 z
    exact (hR t y e).trans (read_rows R t (index_rows t) y e rfl rfl).symm
  · obtain ⟨T, e, rfl⟩ := eta2 i
    obtain ⟨t, y, rfl⟩ := row0_split T
    refine ⟨t, flush0_6 t, ?_⟩
    show _ ∈ ((View.whole main_call0_v24_1).slice (win0_6.rect t)).set
    rw [View.set_slice_whole]
    exact Rect.mem_set_unit.mpr (mem_tile t (index_rows t) y e)

/-- The result buffer, after the last point. -/
theorem final1_16 : final1 V c 16 = acc1 V c 32 := by
  refine Dat.arrAt_eq_of_cover ((rd1 V c).withAfter (after1 V c)) 16 (acc1 V c 32) (fun t ht => ?_) (fun i => ?_)
  · have h31 : t.val = 31 := by
      have h1 := (flush1_16 t).mp ht
      have h2 : t.val < 32 := t.isLt
      omega
    refine (flushed1_16 V c t _ _ (show after1 V c 16 t = acc1 V c (t.val + 1) from rfl)).trans (funext fun (z : S2048x1024.Idx) => ?_)
    rw [h31]
    obtain ⟨y, o, rfl⟩ := eta2 z
    exact (read_whole (acc1 V c 32) index_whole y o rfl rfl).symm
  · refine ⟨⟨31, by decide⟩, (flush1_16 _).mpr rfl, ?_⟩
    show _ ∈ ((View.whole main_call0_v25).slice (win1_16.rect _)).set
    rw [View.set_slice_whole]
    refine Rect.mem_set_unit.mpr fun d => ?_
    match d with
    | ⟨0, _⟩ => exact ⟨Nat.zero_le _, (i 0).isLt⟩
    | ⟨1, _⟩ => exact ⟨Nat.zero_le _, (i 1).isLt⟩

end Ends

/-! ## The gate's region -/

variable (m : (ℓ : Loc nD τ sig) → Buf (Elt Ideal) ℓ) (c : Dev nD)

theorem blk0_hidden (t : Fin cfg0.N) (y : Fin 512) (h : Fin 1024) :
    (blk0 (V1 m c) c 0 t : Vec Ideal S512x1024 .f32) (ix2 y h) = (args m c).x (row0 t y) h :=
  (read_rows (V1 m c (Proc.devRef .tc main_call0_v0) : Vec Ideal S2048x1024 .f32) t (index_rows t) y h rfl rfl).trans (host_v0 m c _ h)

theorem blk0_gate (t : Fin cfg0.N) (e : Fin 64) (h : Fin 1024) :
    (blk0 (V1 m c) c 1 t : Vec Ideal S64x1024 .f32) (ix2 e h) = (args m c).wg e h :=
  (read_whole (V1 m c (Proc.devRef .tc main_arg1) : Vec Ideal S64x1024 .f32) index_whole e h rfl rfl).trans
    (congrFun (V1_of m c main_arg1 (by decide)) (ix2 e h))

theorem blk0_up (t : Fin cfg0.N) (i : Fin 2816) (h : Fin 1024) :
    (blk0 (V1 m c) c 2 t : Vec Ideal S2816x1024 .f32) (ix2 i h) = (args m c).sgW i h :=
  (read_whole (V1 m c (Proc.devRef .tc main_arg15) : Vec Ideal S2816x1024 .f32) index_whole i h rfl rfl).trans
    (congrFun (V1_of m c main_arg15 (by decide)) (ix2 i h))

theorem blk0_up' (t : Fin cfg0.N) (i : Fin 2816) (h : Fin 1024) :
    (blk0 (V1 m c) c 3 t : Vec Ideal S2816x1024 .f32) (ix2 i h) = (args m c).suW i h :=
  (read_whole (V1 m c (Proc.devRef .tc main_arg16) : Vec Ideal S2816x1024 .f32) index_whole i h rfl rfl).trans
    (congrFun (V1_of m c main_arg16 (by decide)) (ix2 i h))

theorem blk0_down (t : Fin cfg0.N) (o : Fin 1024) (i : Fin 2816) :
    (blk0 (V1 m c) c 4 t : Vec Ideal S1024x2816 .f32) (ix2 o i) = (args m c).sdW o i :=
  (read_whole (V1 m c (Proc.devRef .tc main_arg17) : Vec Ideal S1024x2816 .f32) index_whole o i rfl rfl).trans
    (congrFun (V1_of m c main_arg17 (by decide)) (ix2 o i))

theorem scores_eq (t : Fin cfg0.N) (y : Fin 512) :
    scores (blk0 (V1 m c) c 0 t) (blk0 (V1 m c) c 1 t) y = score (args m c) (row0 t y) := by
  refine congrArg softmax (funext fun e => Finset.sum_congr rfl fun h _ => ?_)
  exact congrArg₂ (· * ·) (blk0_hidden m c t y h) (blk0_gate m c t e h)

/-- The routing weights the gate's region leaves. -/
theorem gate_out (hp : (args m c).Finite) : final0 (V1 m c) c 5 = fun i : S2048x64.Idx => pick (score (args m c) (i 0)) (i 1) := by
  refine final0_5 _ c _ fun t y e => ?_
  refine (route0_apply (blk0 (V1 m c) c 0 t) (blk0 (V1 m c) c 1 t) y (fun e => ?_) e).trans ?_
  · rw [scores_eq]; exact mask_lt_score hp _ e
  · rw [scores_eq]; rfl

/-- The shared rows the gate's region leaves. -/
theorem shared_out : final0 (V1 m c) c 6 = fun i : S2048x1024.Idx => shared (args m c) (i 0) (i 1) := by
  refine final0_6 _ c _ fun t y o => ?_
  refine (shared0_apply (blk0 (V1 m c) c 0 t) y (blk0 (V1 m c) c 2 t) (blk0 (V1 m c) c 3 t) (blk0 (V1 m c) c 4 t) o).trans ?_
  refine Finset.sum_congr rfl fun i _ => congrArg₂ (· * ·) (congrArg₂ (· * ·) (congrArg silu ?_) ?_) (blk0_down m c t o i)
  · exact Finset.sum_congr rfl fun h _ => congrArg₂ (· * ·) (blk0_hidden m c t y h) (blk0_up m c t i h)
  · exact Finset.sum_congr rfl fun h _ => congrArg₂ (· * ·) (blk0_hidden m c t y h) (blk0_up' m c t i h)

end Cert.KernelIdeal.Gen
-- ==== Proof.KernelIdealResult.lean ====
/- The launch's result, entry by entry. -/
module

public import proofs.«01_k».proof.Proof.KernelIdealValue

/-!
The experts' region adds one expert's term to a half of the rows at each point, so the result is the layer's output.
-/

@[expose] public section

set_option maxRecDepth 16384

noncomputable section

open scoped BigOperators

namespace Cert.KernelIdeal.Gen

open Idealize.ShloMosaic Cert.Moe

variable (m : (ℓ : Loc nD τ sig) → Buf (Elt Ideal) ℓ) (c : Dev nD)

/-- An operand of the experts' region that the gate's region does not write. -/
theorem mid_host (r : Ref sig .tc) (h : r ≠ main_call0_v24_0 ∧ r ≠ main_call0_v24_1) :
    mid m c (Proc.devRef .tc r) = V1 m c (Proc.devRef .tc r) :=
  mid_of m c _ (ref_ne h.1) (ref_ne h.2)

/-- What the blocks of a point hold, from what the operands hold. -/
theorem blocks_of (V : Valuation τ sig (Elt Ideal)) (p : Args) (t : Fin cfg1.N)
    (h0 : ∀ t h, (V (Proc.devRef .tc main_call0_v1) : Vec Ideal S2048x1024 .bf16) (ix2 t h) = p.x t h)
    (h1 : ∀ t j, (V (Proc.devRef .tc main_call0_v24_0) : Vec Ideal S2048x64 .f32) (ix2 t j) = pick (score p t) j)
    (h2 : ∀ t o, (V (Proc.devRef .tc main_call0_v24_1) : Vec Ideal S2048x1024 .bf16) (ix2 t o) = shared p t o)
    (h3 : ∀ e o h, (V (Proc.devRef .tc main_call0_v21) : Vec Ideal S16x1408x1024 .bf16) (ix3 e o h) = p.gW e o h)
    (h4 : ∀ e l h, (V (Proc.devRef .tc main_call0_v3) : Vec Ideal S16x32x1024 .bf16) (ix3 e l h) = p.gqa e (member l) (within l) h)
    (h5 : ∀ e l o, (V (Proc.devRef .tc main_call0_v10) : Vec Ideal S16x32x1408 .bf16) (ix3 e l o) = p.gqb e (member l) o (within l))
    (h6 : ∀ e o, (V (Proc.devRef .tc main_call0_v18) : Vec Ideal S16x1x1408 .f32) (ix3 e 0 o) = p.gsc e o)
    (h7 : ∀ e o h, (V (Proc.devRef .tc main_call0_v22) : Vec Ideal S16x1408x1024 .bf16) (ix3 e o h) = p.uW e o h)
    (h8 : ∀ e l h, (V (Proc.devRef .tc main_call0_v5) : Vec Ideal S16x32x1024 .bf16) (ix3 e l h) = p.uqa e (member l) (within l) h)
    (h9 : ∀ e l o, (V (Proc.devRef .tc main_call0_v13) : Vec Ideal S16x32x1408 .bf16) (ix3 e l o) = p.uqb e (member l) o (within l))
    (h10 : ∀ e o, (V (Proc.devRef .tc main_call0_v19) : Vec Ideal S16x1x1408 .f32) (ix3 e 0 o) = p.usc e o)
    (h11 : ∀ e o i, (V (Proc.devRef .tc main_call0_v23) : Vec Ideal S16x1024x1408 .bf16) (ix3 e o i) = p.dW e o i)
    (h12 : ∀ e l i, (V (Proc.devRef .tc main_call0_v7) : Vec Ideal S16x32x1408 .bf16) (ix3 e l i) = p.dqa e (member l) (within l) i)
    (h13 : ∀ e l o, (V (Proc.devRef .tc main_call0_v16) : Vec Ideal S16x32x1024 .bf16) (ix3 e l o) = p.dqb e (member l) o (within l))
    (h14 : ∀ e o, (V (Proc.devRef .tc main_call0_v20) : Vec Ideal S16x1x1024 .f32) (ix3 e 0 o) = p.dsc e o)
    (h15 : ∀ e k h, (V (Proc.devRef .tc main_call0_v17) : Vec Ideal S16x4x1024 .f32) (ix3 e k h) = p.mup e h k) :
    Blocks p (grid1.coords t 0) (blk1 V c 0 t) (blk1 V c 1 t) (blk1 V c 2 t) (blk1 V c 3 t) (blk1 V c 4 t) (blk1 V c 5 t) (blk1 V c 6 t)
      (blk1 V c 7 t) (blk1 V c 8 t) (blk1 V c 9 t) (blk1 V c 10 t) (blk1 V c 11 t) (blk1 V c 12 t) (blk1 V c 13 t) (blk1 V c 14 t) (blk1 V c 15 t) where
  h0 y h := (read_whole (V (Proc.devRef .tc main_call0_v1) : Vec Ideal S2048x1024 .bf16) index_whole y h rfl rfl).trans (h0 y h)
  h1 y j := (read_whole (V (Proc.devRef .tc main_call0_v24_0) : Vec Ideal S2048x64 .f32) index_whole y j rfl rfl).trans (h1 y j)
  h2 y o := (read_whole (V (Proc.devRef .tc main_call0_v24_1) : Vec Ideal S2048x1024 .bf16) index_whole y o rfl rfl).trans (h2 y o)
  h3 o h := (read_expert (V (Proc.devRef .tc main_call0_v21) : Vec Ideal S16x1408x1024 .bf16) _ (index_expert t) o h rfl rfl rfl).trans (h3 _ o h)
  h4 l h := (read_expert (V (Proc.devRef .tc main_call0_v3) : Vec Ideal S16x32x1024 .bf16) _ (index_expert t) l h rfl rfl rfl).trans (h4 _ l h)
  h5 l o := (read_expert (V (Proc.devRef .tc main_call0_v10) : Vec Ideal S16x32x1408 .bf16) _ (index_expert t) l o rfl rfl rfl).trans (h5 _ l o)
  h6 o := (read_expert (V (Proc.devRef .tc main_call0_v18) : Vec Ideal S16x1x1408 .f32) _ (index_expert t) 0 o rfl rfl rfl).trans (h6 _ o)
  h7 o h := (read_expert (V (Proc.devRef .tc main_call0_v22) : Vec Ideal S16x1408x1024 .bf16) _ (index_expert t) o h rfl rfl rfl).trans (h7 _ o h)
  h8 l h := (read_expert (V (Proc.devRef .tc main_call0_v5) : Vec Ideal S16x32x1024 .bf16) _ (index_expert t) l h rfl rfl rfl).trans (h8 _ l h)
  h9 l o := (read_expert (V (Proc.devRef .tc main_call0_v13) : Vec Ideal S16x32x1408 .bf16) _ (index_expert t) l o rfl rfl rfl).trans (h9 _ l o)
  h10 o := (read_expert (V (Proc.devRef .tc main_call0_v19) : Vec Ideal S16x1x1408 .f32) _ (index_expert t) 0 o rfl rfl rfl).trans (h10 _ o)
  h11 o i := (read_expert (V (Proc.devRef .tc main_call0_v23) : Vec Ideal S16x1024x1408 .bf16) _ (index_expert t) o i rfl rfl rfl).trans (h11 _ o i)
  h12 l i := (read_expert (V (Proc.devRef .tc main_call0_v7) : Vec Ideal S16x32x1408 .bf16) _ (index_expert t) l i rfl rfl rfl).trans (h12 _ l i)
  h13 l o := (read_expert (V (Proc.devRef .tc main_call0_v16) : Vec Ideal S16x32x1024 .bf16) _ (index_expert t) l o rfl rfl rfl).trans (h13 _ l o)
  h14 o := (read_expert (V (Proc.devRef .tc main_call0_v20) : Vec Ideal S16x1x1024 .f32) _ (index_expert t) 0 o rfl rfl rfl).trans (h14 _ o)
  h15 k h := (read_expert (V (Proc.devRef .tc main_call0_v17) : Vec Ideal S16x4x1024 .f32) _ (index_expert t) k h rfl rfl rfl).trans (h15 _ k h)

/-- What the blocks of a point hold. -/
theorem blocks1 (hp : (args m c).Finite) (t : Fin cfg1.N) :
    Blocks (args m c) (grid1.coords t 0) (blk1 (mid m c) c 0 t) (blk1 (mid m c) c 1 t) (blk1 (mid m c) c 2 t) (blk1 (mid m c) c 3 t)
      (blk1 (mid m c) c 4 t) (blk1 (mid m c) c 5 t) (blk1 (mid m c) c 6 t) (blk1 (mid m c) c 7 t) (blk1 (mid m c) c 8 t) (blk1 (mid m c) c 9 t)
      (blk1 (mid m c) c 10 t) (blk1 (mid m c) c 11 t) (blk1 (mid m c) c 12 t) (blk1 (mid m c) c 13 t) (blk1 (mid m c) c 14 t) (blk1 (mid m c) c 15 t) :=
  blocks_of c (mid m c) (args m c) t
    (fun y h => (congrFun (mid_host m c main_call0_v1 (by decide)) (ix2 y h)).trans (host_v1 m c y h))
    (fun y j => congrFun ((mid_0 m c).trans (gate_out m c hp)) (ix2 y j))
    (fun y o => congrFun ((mid_1 m c).trans (shared_out m c)) (ix2 y o))
    (fun e o h => (congrFun (mid_host m c main_call0_v21 (by decide)) (ix3 e o h)).trans (host_v21 m c e o h))
    (fun e l h => (congrFun (mid_host m c main_call0_v3 (by decide)) (ix3 e l h)).trans (host_v3 m c e l h))
    (fun e l o => (congrFun (mid_host m c main_call0_v10 (by decide)) (ix3 e l o)).trans (host_v10 m c e l o))
    (fun e o => (congrFun (mid_host m c main_call0_v18 (by decide)) (ix3 e 0 o)).trans (host_v18 m c e o))
    (fun e o h => (congrFun (mid_host m c main_call0_v22 (by decide)) (ix3 e o h)).trans (host_v22 m c e o h))
    (fun e l h => (congrFun (mid_host m c main_call0_v5 (by decide)) (ix3 e l h)).trans (host_v5 m c e l h))
    (fun e l o => (congrFun (mid_host m c main_call0_v13 (by decide)) (ix3 e l o)).trans (host_v13 m c e l o))
    (fun e o => (congrFun (mid_host m c main_call0_v19 (by decide)) (ix3 e 0 o)).trans (host_v19 m c e o))
    (fun e o i => (congrFun (mid_host m c main_call0_v23 (by decide)) (ix3 e o i)).trans (host_v23 m c e o i))
    (fun e l i => (congrFun (mid_host m c main_call0_v7 (by decide)) (ix3 e l i)).trans (host_v7 m c e l i))
    (fun e l o => (congrFun (mid_host m c main_call0_v16 (by decide)) (ix3 e l o)).trans (host_v16 m c e l o))
    (fun e o => (congrFun (mid_host m c main_call0_v20 (by decide)) (ix3 e 0 o)).trans (host_v20 m c e o))
    (fun e k h => (congrFun (mid_host m c main_call0_v17 (by decide)) (ix3 e k h)).trans (host_v17 m c e k h))

/-! ## The accumulation -/

/-- A sum over the experts whose point lies before `n`, one point later. -/
theorem before_succ (f : Fin 16 → EReal) (b : ℕ) (e : Fin 16) :
    (∑ a : Fin 16, if 2 * a.val + b < 2 * e.val + b + 1 then f a else 0) = (∑ a : Fin 16, if 2 * a.val + b < 2 * e.val + b then f a else 0) + f e := by
  rw [← Finset.sum_ite_eq' Finset.univ e f |>.trans (if_pos (Finset.mem_univ e)), ← Finset.sum_add_distrib]
  refine Finset.sum_congr rfl fun a _ => ?_
  rcases lt_trichotomy a.val e.val with h | h | h
  · rw [if_pos (by omega), if_pos (by omega), if_neg (fun h' => by rw [h'] at h; omega), add_zero]
  · obtain rfl : a = e := Fin.ext h
    rw [if_pos (by omega), if_neg (by omega), if_pos rfl, zero_add]
  · rw [if_neg (by omega), if_neg (by omega), if_neg (fun h' => by rw [h'] at h; omega), add_zero]

/-- One expert's step: the first starts from the shared row. -/
theorem step_sum (f : Fin 16 → EReal) (s X : EReal) (b n : ℕ) (e : Fin 16) (he : n = 2 * e.val + b)
    (hX : e.val ≠ 0 → X = s + ∑ a : Fin 16, if 2 * a.val + b < n then f a else 0) :
    (if e.val = 0 then s else X) + f e = s + ∑ a : Fin 16, if 2 * a.val + b < n + 1 then f a else 0 := by
  subst he
  rw [before_succ, ← add_assoc]
  by_cases h0 : e.val = 0
  · rw [if_pos h0, Finset.sum_eq_zero, add_zero]
    intro a _
    exact if_neg (by omega)
  · rw [if_neg h0, hX h0]

/-- After `n` points a row of a half that was reached holds the shared row and the terms of the experts whose points lie
before. -/
theorem acc1_row (hp : (args m c).Finite) : ∀ n ≤ 32, ∀ (T : Fin 2048) (o : Fin 1024), T.val / 1024 < n →
    acc1 (mid m c) c n (ix2 T o)
      = shared (args m c) T o + ∑ e : Fin 16, if 2 * e.val + T.val / 1024 < n then term (args m c) e T o else 0 := by
  intro n
  induction n with
  | zero => intro _ T o h; exact absurd h (Nat.not_lt_zero _)
  | succ n ih =>
    intro hn T o hT
    have hN : n < cfg1.N := hn
    obtain ⟨hc0, hc1⟩ := coords1 ⟨n, hN⟩
    rw [acc1_succ (mid m c) c ⟨n, hN⟩]
    unfold upd1
    by_cases hb : T.val / 1024 = n % 2
    · have hrow : T = row (grid1.coords ⟨n, hN⟩) ⟨T.val % 1024, Nat.mod_lt _ (by decide)⟩ :=
        Fin.ext (by show T.val = 1024 * (grid1.coords ⟨n, hN⟩ 1).val + T.val % 1024; rw [hc1]; show T.val = 1024 * (n % 2) + _; omega)
      have hs := step1_row (grid1.coords ⟨n, hN⟩) (blocks1 m c hp ⟨n, hN⟩) hp (acc1 (mid m c) c n) ⟨T.val % 1024, Nat.mod_lt _ (by decide)⟩ o
      rw [← hrow] at hs
      have he : n = 2 * (grid1.coords ⟨n, hN⟩ 0 : Fin 16).val + T.val / 1024 := by rw [hb, hc0]; exact (Nat.div_add_mod n 2).symm
      refine hs.trans (step_sum (fun e => term (args m c) e T o) _ _ _ _ (grid1.coords ⟨n, hN⟩ 0) he fun h0 => ?_)
      exact ih (Nat.le_of_succ_le hn) T o (by rw [hc0] at h0; change ¬ n / 2 = 0 at h0; omega)
    · have hlt : T.val / 1024 < n := by omega
      refine (step1_other _ _ _ _ _ _ _ _ _ _ _ _ _ _ _ _ _ _ _ (by rw [hc1]; exact hb)).trans ((ih (Nat.le_of_succ_le hn) T o hlt).trans ?_)
      refine congrArg _ (Finset.sum_congr rfl fun e _ => ?_)
      have h2 : T.val / 1024 < 2 := by omega
      exact if_congr (by omega) rfl rfl

/-- The result of the launch. -/
theorem final_out (hp : (args m c).Finite) (T : Fin 2048) (o : Fin 1024) :
    (final m c (Proc.devRef .tc main_v0) : Vec Ideal S1x2048x1024 .f32) (ix3 0 T o) = out (args m c) T o := by
  have h : (last m c (Proc.devRef .tc main_call0_v25) : Vec Ideal S2048x1024 .f32) (ix2 T o) = out (args m c) T o := by
    refine (congrFun ((last_0 m c).trans (final1_16 (mid m c) c)) (ix2 T o)).trans ((acc1_row m c hp 32 le_rfl T o (by omega)).trans ?_)
    rw [add_comm]
    refine congrArg (· + shared (args m c) T o) (Finset.sum_congr rfl fun e _ => if_pos (by omega))
  refine Eq.trans ?_ h
  unfold final
  after_reads_simp
  show shapeCast S1x2048x1024 (last m c (Proc.devRef .tc main_call0_v25) : Vec Ideal S2048x1024 .f32) shapeCasts_S2048x1024_S1x2048x1024 (ix3 0 T o) = _
  pointwise []

end Cert.KernelIdeal.Gen
-- ==== Proof.ReferenceIdealValue.lean ====
/- The reference's result, entry by entry. -/
module

public import proofs.«01_k».proof.Proof.Gen.ReferenceIdeal.Read
public import proofs.«01_k».proof.Proof.Arrays
public import Idealize.ShloMosaic.Lib.Pointwise

/-!
The reference computes the layer's output: its scores, the eight it takes, the gate weights of each expert's members, the
fused expert and the shared experts.
-/

@[expose] public section

set_option maxRecDepth 16384

noncomputable section

open scoped BigOperators

namespace Cert.ReferenceIdeal.Read

open Idealize.ShloMosaic Cert.Moe Cert.Rank

/-- What the reference's arguments hold. -/
structure Holds (p : Args) (x0 : Vec Ideal S1x2048x1024 .f32) (x1 : Vec Ideal S64x1024 .f32) (x2 : Vec Ideal S16x1024x4 .f32) (x3 : Vec Ideal S16x1408x1024 .f32) (x4 : Vec Ideal S16x4x8x1024 .f32) (x5 : Vec Ideal S16x4x1408x8 .f32) (x6 : Vec Ideal S16x1408 .f32) (x7 : Vec Ideal S16x1408x1024 .f32) (x8 : Vec Ideal S16x4x8x1024 .f32) (x9 : Vec Ideal S16x4x1408x8 .f32) (x10 : Vec Ideal S16x1408 .f32) (x11 : Vec Ideal S16x1024x1408 .f32) (x12 : Vec Ideal S16x4x8x1408 .f32) (x13 : Vec Ideal S16x4x1024x8 .f32) (x14 : Vec Ideal S16x1024 .f32) (x15 : Vec Ideal S2816x1024 .f32) (x16 : Vec Ideal S2816x1024 .f32) (x17 : Vec Ideal S1024x2816 .f32) (x18 : Vec Ideal S16x4 .i32) : Prop where
  h0 : ∀ t h, x0 (ix3 0 t h) = p.x t h
  h1 : ∀ e h, x1 (ix2 e h) = p.wg e h
  h2 : ∀ e h k, x2 (ix3 e h k) = p.mup e h k
  h3 : ∀ e o h, x3 (ix3 e o h) = p.gW e o h
  h4 : ∀ e k r h, x4 (ix4 e k r h) = p.gqa e k r h
  h5 : ∀ e k o r, x5 (ix4 e k o r) = p.gqb e k o r
  h6 : ∀ e o, x6 (ix2 e o) = p.gsc e o
  h7 : ∀ e o h, x7 (ix3 e o h) = p.uW e o h
  h8 : ∀ e k r h, x8 (ix4 e k r h) = p.uqa e k r h
  h9 : ∀ e k o r, x9 (ix4 e k o r) = p.uqb e k o r
  h10 : ∀ e o, x10 (ix2 e o) = p.usc e o
  h11 : ∀ e o i, x11 (ix3 e o i) = p.dW e o i
  h12 : ∀ e k r i, x12 (ix4 e k r i) = p.dqa e k r i
  h13 : ∀ e k o r, x13 (ix4 e k o r) = p.dqb e k o r
  h14 : ∀ e o, x14 (ix2 e o) = p.dsc e o
  h15 : ∀ i h, x15 (ix2 i h) = p.sgW i h
  h16 : ∀ i h, x16 (ix2 i h) = p.suW i h
  h17 : ∀ o i, x17 (ix2 o i) = p.sdW o i
  table : ∀ e k, x18 (ix2 e k) = BitVec.ofNat 32 (routed e k).val

variable {p : Args} {x0 : Vec Ideal S1x2048x1024 .f32} {x1 : Vec Ideal S64x1024 .f32} {x2 : Vec Ideal S16x1024x4 .f32} {x3 : Vec Ideal S16x1408x1024 .f32} {x4 : Vec Ideal S16x4x8x1024 .f32} {x5 : Vec Ideal S16x4x1408x8 .f32} {x6 : Vec Ideal S16x1408 .f32} {x7 : Vec Ideal S16x1408x1024 .f32} {x8 : Vec Ideal S16x4x8x1024 .f32} {x9 : Vec Ideal S16x4x1408x8 .f32} {x10 : Vec Ideal S16x1408 .f32} {x11 : Vec Ideal S16x1024x1408 .f32} {x12 : Vec Ideal S16x4x8x1408 .f32} {x13 : Vec Ideal S16x4x1024x8 .f32} {x14 : Vec Ideal S16x1024 .f32} {x15 : Vec Ideal S2816x1024 .f32} {x16 : Vec Ideal S2816x1024 .f32} {x17 : Vec Ideal S1024x2816 .f32} {x18 : Vec Ideal S16x4 .i32}
  (hx : Holds p x0 x1 x2 x3 x4 x5 x6 x7 x8 x9 x10 x11 x12 x13 x14 x15 x16 x17 x18)
include hx

theorem score_apply (t : Fin 2048) (e : Fin 64) : val_main_v13 x0 x1 (ix2 t e) = score p t e := by
  pointwise [val_main_v13, val_main_v9, val_main_v12, val_main_v11, val_main_v10, val_main_v8, val_main_v2, val_main_v7, val_main_v6, val_main_v5, val_main_v4, val_main_v3, val_main_v1, val_main_v0, val_main_cst, val_main_cst_0, val_main_cst_1]
  simp only [hx.h0, hx.h1]
  rfl

/-! ## The eight selected experts -/

omit hx in
theorem along_row (t : Fin 2048) (a b : Fin 64) : (ix2 t a : S2048x64.Idx).along 1 b = ix2 t b := by
  funext d
  match d with
  | ⟨0, _⟩ => rfl
  | ⟨1, _⟩ => rfl

omit hx in
/-- An array of two ranks sorted along its rows with its indices: entry by entry. -/
theorem sort2_apply (cmp : EReal × BitVec 32 → EReal × BitVec 32 → BitVec 1) (x : Vec Ideal S2048x64 .f32)
    (y : Vec Ideal S2048x64 .i32) (s : Fin 64 → EReal) (t : Fin 2048) (r : Fin 64) (hs : ∀ a, x (ix2 t a) = s a)
    (hc : ∀ l r, (cmp l r == 1#1) = decide (r.1 < l.1)) :
    (Host.sort2 S2048x64 1 cmp x y).1 (ix2 t r) = s (place s r) ∧
      (Host.sort2 S2048x64 1 cmp x y).2 (ix2 t r) = y (ix2 t (place s r)) := by
  have h : sortedFrom (fun a b : Fin 64 =>
      cmp (x ((ix2 t r : S2048x64.Idx).along 1 a), y ((ix2 t r : S2048x64.Idx).along 1 a))
        (x ((ix2 t r : S2048x64.Idx).along 1 b), y ((ix2 t r : S2048x64.Idx).along 1 b)) == 1#1) r = place s r := by
    refine sortedFrom_eq_place s _ (fun a b => ?_) r
    rw [hc, along_row, along_row, hs, hs]
  rw [← hs, ← h]
  constructor
  · conv_rhs => rw [← along_row t r]
    rfl
  · conv_rhs => rw [← along_row t r]
    rfl

omit hx in
theorem greater (l r : EReal × BitVec 32) :
    (FloatOps.cmpfTotal (F := Ideal) (φ := .f32) .gt l.1 r.1 == 1#1) = decide (r.1 < l.1) := by
  show (BitVec.ofBool (decide (r.1 < l.1)) == 1#1) = decide (r.1 < l.1)
  cases decide (r.1 < l.1) <;> rfl

theorem values_apply (t : Fin 2048) (r : Fin 8) :
    val_main_values x0 x1 (ix2 t r) = score p t (place (score p t) (r.castLE (by decide))) := by
  unfold val_main_values Host.topK
  pointwise []
  exact (sort2_apply _ (val_main_v13 x0 x1) _ (score p t) t (r.castLE (by decide)) (score_apply hx t) greater).1

theorem indices_apply (t : Fin 2048) (r : Fin 8) :
    val_main_indices x0 x1 (ix2 t r) = BitVec.ofNat 32 (place (score p t) (r.castLE (by decide))).val := by
  unfold val_main_indices Host.topK
  pointwise []
  exact (sort2_apply _ (val_main_v13 x0 x1) _ (score p t) t (r.castLE (by decide)) (score_apply hx t) greater).2

omit hx in
theorem bit_value (b : BitVec 1) : FloatOps.uitofp (F := Ideal) .f32 b = if b = 1#1 then (1 : EReal) else 0 := by
  rcases BitVec.eq_zero_or_eq_one b with rfl | rfl
  · show ((((0#1 : BitVec 1).toNat : ℕ) : ℝ) : EReal) = _
    simp
  · show ((((1#1 : BitVec 1).toNat : ℕ) : ℝ) : EReal) = _
    simp

omit hx in
theorem same_word : ∀ a b : Fin 64, IntOp.cmpi .eq (BitVec.ofNat 32 a.val) (BitVec.ofNat 32 b.val) = 1#1 ↔ a = b := by
  decide +kernel

theorem raw_apply (e : Fin 16) (t : Fin 2048) (k : Fin 4) : val_main_v23 x0 x1 x18 (ix3 e t k) = raw p e t k := by
  pointwise [val_main_v23, val_main_v22, val_main_v21, val_main_v20, val_main_v19, val_main_v18, val_main_v17, val_main_v16, val_main_v15, val_main_v14, val_main_cst_2]
  simp only [values_apply hx, indices_apply hx, hx.table, bit_value, same_word]
  exact sum_place (score p t) (by decide) (routed e k)

theorem wt_apply (e : Fin 16) (t : Fin 2048) (k : Fin 4) : val_main_v39 x0 x1 x18 (ix3 e t k) = wt p e t k := by
  pointwise [val_main_v39, val_main_v38, val_main_v37, val_main_v36, val_main_v35, val_main_v34, val_main_v33, val_main_v32, val_main_v31, val_main_v30, val_main_v29, val_main_v28, val_main_call0_v1, val_main_call0_v0, val_main_v27, val_main_v26, val_main_cst_4, val_main_cst_5, val_main_cst_6, val_main_cst_7, val_main_cst_8]
  simp only [raw_apply hx]
  rfl

theorem act_apply (e : Fin 16) (t : Fin 2048) (h : Fin 1024) : val_main_v43 x0 x1 x2 x18 (ix3 e t h) = act p e t h := by
  pointwise [val_main_v43, val_main_v42, val_main_v41, val_main_v40, val_main_v0]
  simp only [wt_apply hx, hx.h0, hx.h2]
  rfl

theorem total_apply (e : Fin 16) (t : Fin 2048) : val_main_v25 x0 x1 x18 (ix3 e t 0) = ∑ k, raw p e t k := by
  pointwise [val_main_v25, val_main_v24, val_main_cst_3]
  simp only [raw_apply hx]

/-! ## The fused expert -/

theorem gate_apply (e : Fin 16) (t : Fin 2048) (o : Fin 1408) :
    val_main_v55 x0 x1 x2 x3 x4 x5 x6 x18 (ix3 e t o) = fused (p.gW e) (p.gqa e) (p.gqb e) (p.gsc e) (wt p e t) (act p e t) o := by
  pointwise [val_main_v55, val_main_v54, val_main_v53, val_main_v52, val_main_v51, val_main_v50, val_main_v49, val_main_v48, val_main_v47, val_main_v46, val_main_v45, val_main_v44, val_main_cst_9]
  simp only [act_apply hx, wt_apply hx, hx.h3, hx.h4, hx.h5, hx.h6, mul_comm (p.gqb _ _ _ _)]
  rfl

theorem up_apply (e : Fin 16) (t : Fin 2048) (o : Fin 1408) :
    val_main_v68 x0 x1 x2 x7 x8 x9 x10 x18 (ix3 e t o) = fused (p.uW e) (p.uqa e) (p.uqb e) (p.usc e) (wt p e t) (act p e t) o := by
  pointwise [val_main_v68, val_main_v67, val_main_v66, val_main_v65, val_main_v64, val_main_v63, val_main_v62, val_main_v61, val_main_v60, val_main_v59, val_main_v58, val_main_v57, val_main_cst_10]
  simp only [act_apply hx, wt_apply hx, hx.h7, hx.h8, hx.h9, hx.h10, mul_comm (p.uqb _ _ _ _)]
  rfl

omit hx in
theorem one_value : Ideal.ofBits .f32 1065353216#32 = 1 := by
  simp [Ideal.ofBits, Ideal.ieee, -EReal.coe_mul, -EReal.coe_neg]
  norm_num

theorem hid_apply (e : Fin 16) (t : Fin 2048) (o : Fin 1408) : val_main_v69 x0 x1 x2 x3 x4 x5 x6 x7 x8 x9 x10 x18 (ix3 e t o) = hid p e t o := by
  pointwise [val_main_v69, val_main_v56, val_main_call1_v5, val_main_call1_v4, val_main_call1_v3, val_main_call1_v2, val_main_call1_v1, val_main_call1_v0, val_main_call1_cst, val_main_call1_cst_0]
  simp only [gate_apply hx, up_apply hx, one_value]
  rfl

theorem expert_apply (e : Fin 16) (t : Fin 2048) (o : Fin 1024) : val_main_v81 x0 x1 x2 x3 x4 x5 x6 x7 x8 x9 x10 x11 x12 x13 x14 x18 (ix3 e t o) = expert p e t o := by
  pointwise [val_main_v81, val_main_v80, val_main_v79, val_main_v78, val_main_v77, val_main_v76, val_main_v75, val_main_v74, val_main_v73, val_main_v72, val_main_v71, val_main_v70, val_main_cst_11]
  simp only [hid_apply hx, wt_apply hx, hx.h11, hx.h12, hx.h13, hx.h14, mul_comm (p.dqb _ _ _ _)]
  rfl

/-- The fused experts' share of the output. -/
theorem experts_apply (t : Fin 2048) (o : Fin 1024) : val_main_v85 x0 x1 x2 x3 x4 x5 x6 x7 x8 x9 x10 x11 x12 x13 x14 x18 (ix3 0 t o) = ∑ e, term p e t o := by
  pointwise [val_main_v85, val_main_v84, val_main_v83, val_main_v82, val_main_cst_12]
  simp only [expert_apply hx, total_apply hx]
  rfl

/-- The shared experts' share of the output. -/
theorem shared_apply (t : Fin 2048) (o : Fin 1024) : val_main_v93 x0 x15 x16 x17 (ix3 0 t o) = shared p t o := by
  pointwise [val_main_v93, val_main_v92, val_main_v91, val_main_v90, val_main_v89, val_main_v88, val_main_v87, val_main_v86, val_main_call2_v5, val_main_call2_v4, val_main_call2_v3, val_main_call2_v2, val_main_call2_v1, val_main_call2_v0, val_main_call2_cst, val_main_call2_cst_0]
  simp only [hx.h0, hx.h15, hx.h16, hx.h17, one_value]
  rfl

/-- The reference returns the layer's output. -/
theorem out_apply (t : Fin 2048) (o : Fin 1024) : val_main_v94 x0 x1 x2 x3 x4 x5 x6 x7 x8 x9 x10 x11 x12 x13 x14 x15 x16 x17 x18 (ix3 0 t o) = out p t o :=
  congrArg₂ (· + ·) (experts_apply hx t o) (shared_apply hx t o)

end Cert.ReferenceIdeal.Read
-- ==== Proof.Algebraic.lean ====
/- Over the extended reals the kernel returns what the reference returns. -/
module

public import proofs.«01_k».proof.Proof.Frames
public import proofs.«01_k».proof.Proof.Precondition
public import proofs.«01_k».proof.Proof.KernelIdealResult
public import proofs.«01_k».proof.Proof.ReferenceIdealValue
public import Idealize.ShloMosaic.Lib.Claim

/-!
Both programs return the layer's output of the arguments they hold, and they hold the same ones.
-/

@[expose] public section

set_option maxRecDepth 16384

noncomputable section

namespace Cert.Proof

open Idealize.ShloMosaic Idealize.SL.Sem Idealize.ShloMosaic.StableHlo Cert.Moe

attribute [local instance] preFacts

/-- Under the precondition the kernel's result is the reference's. -/
theorem same_result (m : (ℓ : Loc Cert.KernelIdeal.nD Cert.KernelIdeal.τ Cert.KernelIdeal.sig) → Buf (Elt Ideal) ℓ)
    (hm : Cert.Pre_KernelIdeal_gate_in_order m) (c : Dev Cert.KernelIdeal.nD)
    (x0 : Vec Ideal Cert.ReferenceIdeal.S1x2048x1024 .f32)
    (x1 : Vec Ideal Cert.ReferenceIdeal.S64x1024 .f32)
    (x2 : Vec Ideal Cert.ReferenceIdeal.S16x1024x4 .f32)
    (x3 : Vec Ideal Cert.ReferenceIdeal.S16x1408x1024 .f32)
    (x4 : Vec Ideal Cert.ReferenceIdeal.S16x4x8x1024 .f32)
    (x5 : Vec Ideal Cert.ReferenceIdeal.S16x4x1408x8 .f32)
    (x6 : Vec Ideal Cert.ReferenceIdeal.S16x1408 .f32)
    (x7 : Vec Ideal Cert.ReferenceIdeal.S16x1408x1024 .f32)
    (x8 : Vec Ideal Cert.ReferenceIdeal.S16x4x8x1024 .f32)
    (x9 : Vec Ideal Cert.ReferenceIdeal.S16x4x1408x8 .f32)
    (x10 : Vec Ideal Cert.ReferenceIdeal.S16x1408 .f32)
    (x11 : Vec Ideal Cert.ReferenceIdeal.S16x1024x1408 .f32)
    (x12 : Vec Ideal Cert.ReferenceIdeal.S16x4x8x1408 .f32)
    (x13 : Vec Ideal Cert.ReferenceIdeal.S16x4x1024x8 .f32)
    (x14 : Vec Ideal Cert.ReferenceIdeal.S16x1024 .f32)
    (x15 : Vec Ideal Cert.ReferenceIdeal.S2816x1024 .f32)
    (x16 : Vec Ideal Cert.ReferenceIdeal.S2816x1024 .f32)
    (x17 : Vec Ideal Cert.ReferenceIdeal.S1024x2816 .f32)
    (x18 : Vec Ideal Cert.ReferenceIdeal.S16x4 .i32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12))
    (h13 : x13 = m ((c.tc : Thread Cert.KernelIdeal.nD Cert.KernelIdeal.τ).loc Cert.KernelIdeal.main_arg13))
    (h14 : x14 = m ((c.tc : Thread Cert.KernelIdeal.nD Cert.KernelIdeal.τ).loc Cert.KernelIdeal.main_arg14))
    (h15 : x15 = m ((c.tc : Thread Cert.KernelIdeal.nD Cert.KernelIdeal.τ).loc Cert.KernelIdeal.main_arg15))
    (h16 : x16 = m ((c.tc : Thread Cert.KernelIdeal.nD Cert.KernelIdeal.τ).loc Cert.KernelIdeal.main_arg16))
    (h17 : x17 = m ((c.tc : Thread Cert.KernelIdeal.nD Cert.KernelIdeal.τ).loc Cert.KernelIdeal.main_arg17))
    (h18 : x18 = m ((c.tc : Thread Cert.KernelIdeal.nD Cert.KernelIdeal.τ).loc Cert.KernelIdeal.main_arg18)) :
    Cert.ReferenceIdeal.Read.val_main_v94 (F := Ideal) x0 x1 x2 x3 x4 x5 x6 x7 x8 x9 x10 x11 x12 x13 x14 x15 x16 x17 x18
      = (Cert.KernelIdeal.Gen.final m c (Proc.devRef .tc Cert.KernelIdeal.main_v0) : Vec Ideal Cert.ReferenceIdeal.S1x2048x1024 .f32) := by
  have hold : Cert.ReferenceIdeal.Read.Holds (Cert.KernelIdeal.Gen.args m c) x0 x1 x2 x3 x4 x5 x6 x7 x8 x9 x10 x11 x12 x13 x14 x15 x16 x17 x18 := by
    subst h0 h1 h2 h3 h4 h5 h6 h7 h8 h9 h10 h11 h12 h13 h14 h15 h16 h17 h18
    constructor
    case table => exact fun e k => table_eq hm c e k
    all_goals intros; rfl
  funext j
  obtain ⟨z, t, o, rfl⟩ : ∃ (z : Fin 1) (t : Fin 2048) (o : Fin 1024), j = ix3 z t o := ⟨j 0, j 1, j 2, by
    funext d
    match d with
    | ⟨0, _⟩ => rfl
    | ⟨1, _⟩ => rfl
    | ⟨2, _⟩ => rfl⟩
  obtain rfl : z = 0 := Subsingleton.elim _ _
  exact (Cert.ReferenceIdeal.Read.out_apply hold t o).trans (Cert.KernelIdeal.Gen.final_out m c (gate_finite hm c) t o).symm

/-- From memories that agree on the arguments, both programs return the same array and leave their arguments unchanged. -/
theorem algebraic : Cert.algebraic_KernelIdeal_ReferenceIdeal_pre_gate_in_order := by
  intro m g m' g' hm hargs
  refine ⟨fun c => Cert.KernelIdeal.Gen.final m c (Proc.devRef .tc Cert.KernelIdeal.main_v0), ?_, ?_⟩
  · refine θ_run_mono (Cert.KernelIdeal.Gen.run_all (F := Ideal) m g) fun _ h c => ⟨h.1 c _ rfl, ?_⟩
    refine ⟨?_, ?_, ?_, ?_, ?_, ?_, ?_, ?_, ?_, ?_, ?_, ?_, ?_, ?_, ?_, ?_, ?_, ?_, ?_⟩ <;>
      exact (h.1 c _ rfl).trans (Cert.KernelIdeal.Gen.final_arg m c _ (by decide) (by decide) (by decide))
  · refine θ_run_mono (Cert.ReferenceIdeal.Value.run (F := Ideal) m' g') fun _ h c => ⟨?_, (h c).2⟩
    obtain ⟨h0, h1, h2, h3, h4, h5, h6, h7, h8, h9, h10, h11, h12, h13, h14, h15, h16, h17, h18⟩ := hargs c
    exact ((h c).1.trans (Cert.ReferenceIdeal.Read.val_main_v94_eq (launchContents m' c))).trans
      (same_result m hm c _ _ _ _ _ _ _ _ _ _ _ _ _ _ _ _ _ _ _ h0 h1 h2 h3 h4 h5 h6 h7 h8 h9 h10 h11 h12 h13 h14 h15 h16 h17 h18)

end Cert.Proof

end
-- ==== Proof.lean ====
/- The certificate: the frames of the three programs, the ideal program being the kernel's own text, and the kernel's
   result being the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Frames
public import proofs.«01_k».proof.Proof.Precondition
public import proofs.«01_k».proof.Proof.Algebraic

@[expose] public section

noncomputable section

namespace Cert.Proof

/-- Everything claimed. -/
theorem claim : Cert.Claim :=
  ⟨Cert.Kernel.Gen.facts, Cert.KernelIdeal.Gen.facts, Cert.ReferenceIdeal.Gen.facts, preFacts, frame_p, frame_pi,
    fun m g _ => frame_pi m g True.intro, frame_ri, fun m g _ => frame_ri m g True.intro, trivial, algebraic⟩

end Cert.Proof

end
